-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x6144 : Shape := ⟨3, ![3, 1, 6144]⟩
abbrev S4x24576x768 : Shape := ⟨3, ![4, 24576, 768]⟩
abbrev S24576x192 : Shape := ⟨2, ![24576, 192]⟩
abbrev S144x128 : Shape := ⟨2, ![144, 128]⟩
abbrev S3x1x24576 : Shape := ⟨3, ![3, 1, 24576]⟩
abbrev S144x512 : Shape := ⟨2, ![144, 512]⟩
abbrev S3x1x48 : Shape := ⟨3, ![3, 1, 48]⟩
abbrev S4x512x768 : Shape := ⟨3, ![4, 512, 768]⟩
abbrev S512x192 : Shape := ⟨2, ![512, 192]⟩
abbrev S3x1x512 : Shape := ⟨3, ![3, 1, 512]⟩
abbrev S24x24x960 : Shape := ⟨3, ![24, 24, 960]⟩
abbrev S576x128 : Shape := ⟨2, ![576, 128]⟩
abbrev S128x512 : Shape := ⟨2, ![128, 512]⟩
abbrev S144 : Shape := ⟨1, ![144]⟩
abbrev S144x1 : Shape := ⟨2, ![144, 1]⟩
abbrev S48x128 : Shape := ⟨2, ![48, 128]⟩
abbrev S128 : Shape := ⟨1, ![128]⟩
abbrev S1x128 : Shape := ⟨2, ![1, 128]⟩
abbrev S1x48 : Shape := ⟨2, ![1, 48]⟩
abbrev S1x1x48 : Shape := ⟨3, ![1, 1, 48]⟩
abbrev S128x128 : Shape := ⟨2, ![128, 128]⟩
abbrev S128x960 : Shape := ⟨2, ![128, 960]⟩
abbrev S24x960 : Shape := ⟨2, ![24, 960]⟩
abbrev S8x128 : Shape := ⟨2, ![8, 128]⟩
abbrev S24x128 : Shape := ⟨2, ![24, 128]⟩
abbrev S1x24x960 : Shape := ⟨3, ![1, 24, 960]⟩
abbrev S256x192 : Shape := ⟨2, ![256, 192]⟩
abbrev S192x256 : Shape := ⟨2, ![192, 256]⟩
abbrev S8x256 : Shape := ⟨2, ![8, 256]⟩
abbrev S1x128x128 : Shape := ⟨3, ![1, 128, 128]⟩
abbrev S32x128 : Shape := ⟨2, ![32, 128]⟩
abbrev S240x128 : Shape := ⟨2, ![240, 128]⟩
abbrev S960x128 : Shape := ⟨2, ![960, 128]⟩
abbrev S960x256 : Shape := ⟨2, ![960, 256]⟩
abbrev S24x256 : Shape := ⟨2, ![24, 256]⟩
abbrev S256 : Shape := ⟨1, ![256]⟩
abbrev S1x256 : Shape := ⟨2, ![1, 256]⟩
abbrev S1x1x256 : Shape := ⟨3, ![1, 1, 256]⟩
abbrev S3x1x1536x16 : Shape := ⟨4, ![3, 1, 1536, 16]⟩

abbrev nBuf : Space → Nat
  | .hbm => 9
  | .vmem => 15
  | .smem => 0
  | _ => 0

abbrev bufTy : (tb : Table) → Fin (tcTables nBuf tb) → BufTy
  | .hbm, ⟨0, _⟩ => ⟨S3x1x6144, .bf16⟩
  | .hbm, ⟨1, _⟩ => ⟨S4x24576x768, .i8⟩
  | .hbm, ⟨2, _⟩ => ⟨S24576x192, .f32⟩
  | .hbm, ⟨3, _⟩ => ⟨S24576x192, .f32⟩
  | .hbm, ⟨4, _⟩ => ⟨S144x128, .bf16⟩
  | .hbm, ⟨5, _⟩ => ⟨S3x1x24576, .bf16⟩
  | .hbm, ⟨6, _⟩ => ⟨S144x512, .i8⟩
  | .hbm, ⟨7, _⟩ => ⟨S3x1x48, .f32⟩
  | .hbm, ⟨8, _⟩ => ⟨S3x1x1536x16, .i8⟩
  | .local _ .vmem, ⟨0, _⟩ => ⟨S144x128, .bf16⟩
  | .local _ .vmem, ⟨1, _⟩ => ⟨S4x512x768, .i8⟩
  | .local _ .vmem, ⟨2, _⟩ => ⟨S4x512x768, .i8⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S3x1x512, .bf16⟩
  | .local _ .vmem, ⟨8, _⟩ => ⟨S3x1x512, .bf16⟩
  | .local _ .vmem, ⟨9, _⟩ => ⟨S144x512, .i8⟩
  | .local _ .vmem, ⟨10, _⟩ => ⟨S3x1x48, .f32⟩
  | .local _ .vmem, ⟨11, _⟩ => ⟨S24x24x960, .bf16⟩
  | .local _ .vmem, ⟨12, _⟩ => ⟨S576x128, .f32⟩
  | .local _ .vmem, ⟨13, _⟩ => ⟨S576x128, .f32⟩
  | .local _ .vmem, ⟨14, _⟩ => ⟨S576x128, .f32⟩
  | _, _ => ⟨S3x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S144x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x512x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S144x512 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x1x6144 : Shape := ⟨3, ![3, 1, 6144]⟩
abbrev S4x24576x768 : Shape := ⟨3, ![4, 24576, 768]⟩
abbrev S24576x192 : Shape := ⟨2, ![24576, 192]⟩
abbrev S3x1x1536x4 : Shape := ⟨4, ![3, 1, 1536, 4]⟩
abbrev S16 : Shape := ⟨1, ![16]⟩
abbrev S16x1 : Shape := ⟨2, ![16, 1]⟩
abbrev S4 : Shape := ⟨1, ![4]⟩
abbrev S1x4 : Shape := ⟨2, ![1, 4]⟩
abbrev S16x4 : Shape := ⟨2, ![16, 4]⟩
abbrev S_ : Shape := ⟨0, ![]⟩
abbrev S3x1x1536x1 : Shape := ⟨4, ![3, 1, 1536, 1]⟩
abbrev S1x1x1x16 : Shape := ⟨4, ![1, 1, 1, 16]⟩
abbrev S3x1x1536x16 : Shape := ⟨4, ![3, 1, 1536, 16]⟩
abbrev S3x1x48x32x16 : Shape := ⟨5, ![3, 1, 48, 32, 16]⟩
abbrev S3x1x48 : Shape := ⟨3, ![3, 1, 48]⟩
abbrev S3x1x48x1x1 : Shape := ⟨5, ![3, 1, 48, 1, 1]⟩
abbrev S3x1x768x2x16 : Shape := ⟨5, ![3, 1, 768, 2, 16]⟩
abbrev S768 : Shape := ⟨1, ![768]⟩
abbrev S3x1x768x1x16 : Shape := ⟨5, ![3, 1, 768, 1, 16]⟩
abbrev S3x1x768x16 : Shape := ⟨4, ![3, 1, 768, 16]⟩
abbrev S4x24576x768x1 : Shape := ⟨4, ![4, 24576, 768, 1]⟩
abbrev S4x24576x768x2 : Shape := ⟨4, ![4, 24576, 768, 2]⟩
abbrev S3x1x4x24576x768 : Shape := ⟨5, ![3, 1, 4, 24576, 768]⟩
abbrev S3x1x4x24576x192x4 : Shape := ⟨6, ![3, 1, 4, 24576, 192, 4]⟩
abbrev S3x1x4x24576x192 : Shape := ⟨5, ![3, 1, 4, 24576, 192]⟩
abbrev S4x1x1 : Shape := ⟨3, ![4, 1, 1]⟩
abbrev S1x1x4x1x1 : Shape := ⟨5, ![1, 1, 4, 1, 1]⟩
abbrev S3x1x24576x192 : Shape := ⟨4, ![3, 1, 24576, 192]⟩
abbrev S3x1x1536 : Shape := ⟨3, ![3, 1, 1536]⟩
abbrev S3x1x192x8 : Shape := ⟨4, ![3, 1, 192, 8]⟩
abbrev S3x1x192 : Shape := ⟨3, ![3, 1, 192]⟩
abbrev S1x1x24576x192 : Shape := ⟨4, ![1, 1, 24576, 192]⟩
abbrev S3x1x1x192 : Shape := ⟨4, ![3, 1, 1, 192]⟩
abbrev S3x1x48x4 : Shape := ⟨4, ![3, 1, 48, 4]⟩
abbrev S3x1x24576 : Shape := ⟨3, ![3, 1, 24576]⟩

abbrev nBuf : Space → Nat
  | .hbm => 172
  | .vmem => 0
  | .smem => 0
  | _ => 0

abbrev hbmTy0_0 (i : Nat) : BufTy := match i % 128 with
  | 0 => ⟨S3x1x6144, .bf16⟩
  | 1 => ⟨S4x24576x768, .i8⟩
  | 2 => ⟨S24576x192, .f32⟩
  | 3 => ⟨S24576x192, .f32⟩
  | 4 => ⟨S3x1x6144, .f32⟩
  | 5 => ⟨S3x1x1536x4, .f32⟩
  | 6 => ⟨S16, .i32⟩
  | 7 => ⟨S16x1, .i32⟩
  | 8 => ⟨S4, .i32⟩
  | 9 => ⟨S1x4, .i32⟩
  | 10 => ⟨S16x4, .i32⟩
  | 11 => ⟨S16x4, .i32⟩
  | 12 => ⟨S16x4, .i32⟩
  | 13 => ⟨S_, .i32⟩
  | 14 => ⟨S16x4, .i32⟩
  | 15 => ⟨S16x4, .i32⟩
  | 16 => ⟨S16x4, .f32⟩
  | 17 => ⟨S16x1, .f32⟩
  | 18 => ⟨S16, .f32⟩
  | 19 => ⟨S3x1x1536x1, .f32⟩
  | 20 => ⟨S1x1x1x16, .f32⟩
  | 21 => ⟨S3x1x1536x16, .f32⟩
  | 22 => ⟨S3x1x1536x16, .f32⟩
  | 23 => ⟨S3x1x1536x16, .f32⟩
  | 24 => ⟨S_, .f32⟩
  | 25 => ⟨S3x1x1536x16, .f32⟩
  | 26 => ⟨S3x1x1536x16, .f32⟩
  | 27 => ⟨S16x1, .f32⟩
  | 28 => ⟨S16, .f32⟩
  | 29 => ⟨S3x1x1536x1, .f32⟩
  | 30 => ⟨S1x1x1x16, .f32⟩
  | 31 => ⟨S3x1x1536x16, .f32⟩
  | 32 => ⟨S3x1x1536x16, .f32⟩
  | 33 => ⟨S3x1x1536x16, .f32⟩
  | 34 => ⟨S3x1x1536x16, .f32⟩
  | 35 => ⟨S16x1, .f32⟩
  | 36 => ⟨S16, .f32⟩
  | 37 => ⟨S3x1x1536x1, .f32⟩
  | 38 => ⟨S1x1x1x16, .f32⟩
  | 39 => ⟨S3x1x1536x16, .f32⟩
  | 40 => ⟨S3x1x1536x16, .f32⟩
  | 41 => ⟨S3x1x1536x16, .f32⟩
  | 42 => ⟨S3x1x1536x16, .f32⟩
  | 43 => ⟨S16x1, .f32⟩
  | 44 => ⟨S16, .f32⟩
  | 45 => ⟨S3x1x1536x1, .f32⟩
  | 46 => ⟨S1x1x1x16, .f32⟩
  | 47 => ⟨S3x1x1536x16, .f32⟩
  | 48 => ⟨S3x1x1536x16, .f32⟩
  | 49 => ⟨S3x1x1536x16, .f32⟩
  | 50 => ⟨S3x1x1536x16, .f32⟩
  | 51 => ⟨S3x1x48x32x16, .f32⟩
  | 52 => ⟨S3x1x48x32x16, .f32⟩
  | 53 => ⟨S_, .f32⟩
  | 54 => ⟨S3x1x48, .f32⟩
  | 55 => ⟨S_, .f32⟩
  | 56 => ⟨S3x1x48, .f32⟩
  | 57 => ⟨S3x1x48, .i1⟩
  | 58 => ⟨S_, .f32⟩
  | 59 => ⟨S3x1x48, .f32⟩
  | 60 => ⟨S3x1x48, .f32⟩
  | 61 => ⟨S_, .f32⟩
  | 62 => ⟨S_, .f32⟩
  | 63 => ⟨S3x1x48, .f32⟩
  | 64 => ⟨S3x1x48, .f32⟩
  | 65 => ⟨S3x1x48x1x1, .f32⟩
  | 66 => ⟨S3x1x48x32x16, .f32⟩
  | 67 => ⟨S3x1x48x32x16, .f32⟩
  | 68 => ⟨S3x1x48x32x16, .f32⟩
  | 69 => ⟨S_, .f32⟩
  | 70 => ⟨S_, .f32⟩
  | 71 => ⟨S_, .f32⟩
  | 72 => ⟨S3x1x48x32x16, .f32⟩
  | 73 => ⟨S3x1x48x32x16, .f32⟩
  | 74 => ⟨S_, .f32⟩
  | 75 => ⟨S3x1x48x32x16, .f32⟩
  | 76 => ⟨S3x1x48x32x16, .f32⟩
  | 77 => ⟨S3x1x48x32x16, .i32⟩
  | 78 => ⟨S3x1x48x32x16, .i8⟩
  | 79 => ⟨S3x1x1536x16, .i8⟩
  | 80 => ⟨S4x24576x768, .i32⟩
  | 81 => ⟨S_, .i32⟩
  | 82 => ⟨S4x24576x768, .i32⟩
  | 83 => ⟨S4x24576x768, .i32⟩
  | 84 => ⟨S_, .i32⟩
  | 85 => ⟨S4x24576x768, .i32⟩
  | 86 => ⟨S4x24576x768, .i32⟩
  | 87 => ⟨S3x1x768x2x16, .i8⟩
  | 88 => ⟨S768, .i32⟩
  | 89 => ⟨S3x1x768x1x16, .i8⟩
  | 90 => ⟨S3x1x768x16, .i8⟩
  | 91 => ⟨S_, .i32⟩
  | 92 => ⟨S768, .i32⟩
  | 93 => ⟨S768, .i1⟩
  | 94 => ⟨S_, .i32⟩
  | 95 => ⟨S768, .i32⟩
  | 96 => ⟨S768, .i32⟩
  | 97 => ⟨S768, .i32⟩
  | 98 => ⟨S_, .i32⟩
  | 99 => ⟨S4x24576x768, .i32⟩
  | 100 => ⟨S4x24576x768, .i1⟩
  | 101 => ⟨S_, .i32⟩
  | 102 => ⟨S4x24576x768, .i32⟩
  | 103 => ⟨S4x24576x768, .i32⟩
  | 104 => ⟨S4x24576x768, .i32⟩
  | 105 => ⟨S4x24576x768, .i32⟩
  | 106 => ⟨S4x24576x768x1, .i32⟩
  | 107 => ⟨S4x24576x768x1, .i32⟩
  | 108 => ⟨S4x24576x768x2, .i32⟩
  | 109 => ⟨S3x1x4x24576x768, .i8⟩
  | 110 => ⟨S3x1x768x1x16, .i8⟩
  | 111 => ⟨S3x1x768x16, .i8⟩
  | 112 => ⟨S_, .i32⟩
  | 113 => ⟨S768, .i32⟩
  | 114 => ⟨S768, .i1⟩
  | 115 => ⟨S_, .i32⟩
  | 116 => ⟨S768, .i32⟩
  | 117 => ⟨S768, .i32⟩
  | 118 => ⟨S768, .i32⟩
  | 119 => ⟨S_, .i32⟩
  | 120 => ⟨S4x24576x768, .i32⟩
  | 121 => ⟨S4x24576x768, .i1⟩
  | 122 => ⟨S_, .i32⟩
  | 123 => ⟨S4x24576x768, .i32⟩
  | 124 => ⟨S4x24576x768, .i32⟩
  | 125 => ⟨S4x24576x768, .i32⟩
  | 126 => ⟨S4x24576x768, .i32⟩
  | 127 => ⟨S4x24576x768x1, .i32⟩
  | _ => ⟨S3x1x6144, .bf16⟩

abbrev hbmTy0_1 (i : Nat) : BufTy := match i % 128 with
  | 0 => ⟨S4x24576x768x1, .i32⟩
  | 1 => ⟨S4x24576x768x2, .i32⟩
  | 2 => ⟨S3x1x4x24576x768, .i8⟩
  | 3 => ⟨S3x1x4x24576x768, .i32⟩
  | 4 => ⟨S3x1x4x24576x768, .i32⟩
  | 5 => ⟨S3x1x4x24576x768, .i32⟩
  | 6 => ⟨S3x1x4x24576x192x4, .i32⟩
  | 7 => ⟨S_, .i32⟩
  | 8 => ⟨S3x1x4x24576x192, .i32⟩
  | 9 => ⟨S4, .i32⟩
  | 10 => ⟨S_, .i32⟩
  | 11 => ⟨S4, .i32⟩
  | 12 => ⟨S4, .i32⟩
  | 13 => ⟨S4x1x1, .i32⟩
  | 14 => ⟨S1x1x4x1x1, .i32⟩
  | 15 => ⟨S3x1x4x24576x192, .i32⟩
  | 16 => ⟨S3x1x4x24576x192, .i32⟩
  | 17 => ⟨S_, .i32⟩
  | 18 => ⟨S3x1x24576x192, .i32⟩
  | 19 => ⟨S3x1x1536x1, .i8⟩
  | 20 => ⟨S3x1x1536, .i8⟩
  | 21 => ⟨S3x1x1536, .i32⟩
  | 22 => ⟨S3x1x192x8, .i32⟩
  | 23 => ⟨S_, .i32⟩
  | 24 => ⟨S3x1x192, .i32⟩
  | 25 => ⟨S3x1x24576x192, .f32⟩
  | 26 => ⟨S1x1x24576x192, .f32⟩
  | 27 => ⟨S3x1x192, .f32⟩
  | 28 => ⟨S3x1x1x192, .f32⟩
  | 29 => ⟨S3x1x24576x192, .f32⟩
  | 30 => ⟨S3x1x24576x192, .f32⟩
  | 31 => ⟨S3x1x24576x192, .f32⟩
  | 32 => ⟨S3x1x24576x192, .f32⟩
  | 33 => ⟨S1x1x24576x192, .f32⟩
  | 34 => ⟨S3x1x48x4, .f32⟩
  | 35 => ⟨S3x1x192, .f32⟩
  | 36 => ⟨S3x1x1x192, .f32⟩
  | 37 => ⟨S3x1x24576x192, .f32⟩
  | 38 => ⟨S3x1x24576x192, .f32⟩
  | 39 => ⟨S3x1x24576x192, .f32⟩
  | 40 => ⟨S3x1x24576x192, .f32⟩
  | 41 => ⟨S_, .f32⟩
  | 42 => ⟨S3x1x24576, .f32⟩
  | 43 => ⟨S3x1x24576, .bf16⟩
  | _ => ⟨S3x1x6144, .bf16⟩

abbrev hbmTy (i : Nat) : BufTy := match i / 128 with
  | 0 => hbmTy0_0 i
  | 1 => hbmTy0_1 i
  | _ => ⟨S3x1x6144, .bf16⟩

abbrev bufTy : (tb : Table) → Fin (tcTables nBuf tb) → BufTy
  | .hbm, ⟨i, _⟩ => hbmTy i
  | _, _ => ⟨S3x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_cst_3 : Ref sig .tc := ⟨.hbm, 61, rfl⟩
abbrev main_call0_v0 : Ref sig .tc := ⟨.hbm, 62, rfl⟩
abbrev main_call0_v1 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_6 : Ref sig .tc := ⟨.hbm, 81, rfl⟩
abbrev main_v62 : Ref sig .tc := ⟨.hbm, 82, rfl⟩
abbrev main_v63 : Ref sig .tc := ⟨.hbm, 83, rfl⟩
abbrev main_c_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_8 : Ref sig .tc := ⟨.hbm, 91, rfl⟩
abbrev main_v70 : Ref sig .tc := ⟨.hbm, 92, rfl⟩
abbrev main_v71 : Ref sig .tc := ⟨.hbm, 93, rfl⟩
abbrev main_c_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_10 : Ref sig .tc := ⟨.hbm, 98, rfl⟩
abbrev main_v75 : Ref sig .tc := ⟨.hbm, 99, rfl⟩
abbrev main_v76 : Ref sig .tc := ⟨.hbm, 100, rfl⟩
abbrev main_c_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_12 : Ref sig .tc := ⟨.hbm, 112, rfl⟩
abbrev main_v87 : Ref sig .tc := ⟨.hbm, 113, rfl⟩
abbrev main_v88 : Ref sig .tc := ⟨.hbm, 114, rfl⟩
abbrev main_c_13 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_14 : Ref sig .tc := ⟨.hbm, 119, rfl⟩
abbrev main_v92 : Ref sig .tc := ⟨.hbm, 120, rfl⟩
abbrev main_v93 : Ref sig .tc := ⟨.hbm, 121, rfl⟩
abbrev main_c_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_16 : Ref sig .tc := ⟨.hbm, 135, rfl⟩
abbrev main_v106 : Ref sig .tc := ⟨.hbm, 136, rfl⟩
abbrev main_v107 : Ref sig .tc := ⟨.hbm, 137, rfl⟩
abbrev main_c_17 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_18 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_19 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_20 : Ref sig .tc := ⟨.hbm, 169, rfl⟩
abbrev main_v136 : Ref sig .tc := ⟨.hbm, 170, rfl⟩
abbrev main_v137 : Ref sig .tc := ⟨.hbm, 171, rfl⟩

abbrev nD : Nat := 1
abbrev τ : Topo := Topo.v7x

variable {F : FTy → Type} [FloatOps F]
-- ==== Proof.BitsRuns.lean ====
/- The frame of the printed kernel, first part: @main around its one region, the windows' blocks, the branch condition
   at a grid point, and the staging and scratch memrefs. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host's operations before the call allocate nothing. -/
theorem hostOps0_fresh : (hostOps0 : List (HloOp τ sig (Elt F))).Forall fun op => op.fresh = ∅ := by
  simp only [List.Forall]; repeat' constructor
/-- The host's operations after the call allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2}
/-- The host's operations after the call write only arrays of the listed set. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      (Pipeline.RDat.FramePostR.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S144x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1x48 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S24x24x960 .bf16 := Memref.whole cc0_scratch0
abbrev scM0_1 : Memref sig .tc .vmem S576x128 .f32 := Memref.whole cc0_scratch1
abbrev scM0_2 : Memref sig .tc .vmem S576x128 .f32 := Memref.whole cc0_scratch2
abbrev scM0_3 : Memref sig .tc .vmem S576x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.BitsRunA.lean ====
/- The frame of the printed kernel, second part: the body run at the first grid point, where the tables are built. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4728000 in set_option sl_exec.stridedRows true in
/-- The body's triple IN CASE A (`scf.if` 0 taken: points 0): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole) (hc0 : cond0_0 i)
    (x0 : Vec F S144x128 .bf16) (x1 : Vec F S4x512x768 .i8) (x2 : Vec F S512x192 .f32) (x3 : Vec F S512x192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
    intro E K
    simp only [cc0__main_kernel_eq_skeleton]; unfold cc0__main_kernel_skel
    simp only [k0_part253_eq_skeleton, k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part254_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part255_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part256_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.BitsRunB.lean ====
/- The frame of the printed kernel, third part: the body run at every other grid point. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3772000 in set_option sl_exec.stridedRows true in
/-- The body's triple IN CASE B (`scf.if` 0 not taken: points 1, 2, … 47: 47 of 48): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole) (hc0 : ¬cond0_0 i)
    (x0 : Vec F S144x128 .bf16) (x1 : Vec F S4x512x768 .i8) (x2 : Vec F S512x192 .f32) (x3 : Vec F S512x192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
    intro E K
    simp only [cc0__main_kernel_eq_skeleton]; unfold cc0__main_kernel_skel
    simp only [k0_part253_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part254_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part255_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part256_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.BitsFrame.lean ====
/- The frame of the printed kernel, last part: the body's triple at a generic point, the launch, and the frame claim. -/
module

public import proofs.«01_k».proof.Proof.BitsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- A grid point leaves the weight planes it holds as it found them. -/
theorem after0_1 (c : Dev nD) (t : Fin cfg0.N) : (dats m 0 c).after 1 t = iblk m c 1 t := by dsimp only [dats]
/-- A grid point leaves the weight scales it holds as it found them. -/
theorem after0_2 (c : Dev nD) (t : Fin cfg0.N) : (dats m 0 c).after 2 t = iblk m c 2 t := by dsimp only [dats]
/-- A grid point leaves the zero points it holds as it found them. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A grid point finds its block of the weight planes. -/
theorem before0_1 (c : Dev nD) (t : Fin cfg0.N) (d) : (dats m 0 c).before 1 t d = iblk m c 1 t :=
  before0_1_of m (dats m 0 c) (A_eq m c 1) (after0_1 m c) t d
/-- A grid point finds its block of the weight scales. -/
theorem before0_2 (c : Dev nD) (t : Fin cfg0.N) (d) : (dats m 0 c).before 2 t d = iblk m c 2 t :=
  before0_2_of m (dats m 0 c) (A_eq m c 2) (after0_2 m c) t d
/-- A grid point finds its block of the zero points. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 48 := lt_of_lt_of_eq t.isLt (show cfg0.N = 48 from N_0)
  by_cases h0 : t.val % 48 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.MainRun.lean ====
/- The kernel body run once with its table phase (`k0_part20`: the branch the first grid point takes, and the first
   loads) replaced by a specification: what the stores of the main loop leave in the output staging memref, as
   pieces over the tables the phase leaves in the scratch. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first part of the body returns: the two parameter blocks transposed, the constants of the accumulators,
    and the first six plane tiles. -/
abbrev head (arg2 : Memref sig .tc .vmem S4x512x768 .i8) (harg2 : arg2.IsWhole) (arg3 : Memref sig .tc .vmem S512x192 .f32) (harg3 : arg3.IsWhole)
    (arg4 : Memref sig .tc .vmem S512x192 .f32) (harg4 : arg4.IsWhole)
    (x1 : Vec F S4x512x768 .i8) (x2 : Vec F S512x192 .f32) (x3 : Vec F S512x192 .f32) :=
  (⟨k0_pay82 (View.readAt (Elt F) arg3.view (Rect.unit (s := S512x192) ![0, 0] S256x192.size inb_S512x192_S256x192_0_0).toLoadRect (harg3.unread x2)), k0_pay83 (View.readAt (Elt F) arg4.view (Rect.unit (s := S512x192) ![0, 0] S256x192.size inb_S512x192_S256x192_0_0).toLoadRect (harg4.unread x3)), k0_pay84 (F := F), k0_pay85 (F := F), k0_pay86 (F := F),
    k0_pay87 (View.readAt (Elt F) arg2.view (Rect.unit (s := S4x512x768) ![0, 0, 0] S1x128x128.size inb_S4x512x768_S1x128x128_0_0_0).toLoadRect (harg2.unread x1)),
    k0_pay88 (View.readAt (Elt F) arg2.view (Rect.unit (s := S4x512x768) ![1, 0, 0] S1x128x128.size inb_S4x512x768_S1x128x128_1_0_0).toLoadRect (harg2.unread x1)),
    k0_pay89 (View.readAt (Elt F) arg2.view (Rect.unit (s := S4x512x768) ![2, 0, 0] S1x128x128.size inb_S4x512x768_S1x128x128_2_0_0).toLoadRect (harg2.unread x1)),
    k0_pay90 (View.readAt (Elt F) arg2.view (Rect.unit (s := S4x512x768) ![3, 0, 0] S1x128x128.size inb_S4x512x768_S1x128x128_3_0_0).toLoadRect (harg2.unread x1)),
    k0_pay91 (View.readAt (Elt F) arg2.view (Rect.unit (s := S4x512x768) ![0, 128, 0] S1x128x128.size inb_S4x512x768_S1x128x128_0_128_0).toLoadRect (harg2.unread x1)),
    (View.readAt (Elt F) arg2.view (Rect.unit (s := S4x512x768) ![1, 128, 0] S1x128x128.size inb_S4x512x768_S1x128x128_1_128_0).toLoadRect (harg2.unread x1))⟩ :
    Σ' (v4 : FVec F S192x256 .f32) (v6 : FVec F S192x256 .f32) (v7 : FVec F S8x256 .f32) (v8 : FVec F S8x256 .f32) (v9 : FVec F S8x256 .f32)
      (v13 : IVec S32x128 32) (v17 : IVec S32x128 32) (v21 : IVec S32x128 32) (v25 : IVec S32x128 32) (v29 : IVec S32x128 32), Vec F S1x128x128 .i8)

-- (the run's proof term is large: the definition's epilogue walks past the default budget)
set_option maxHeartbeats 8000000 in set_option sl_exec.stridedRows true in
/-- The pieces the body leaves in the output staging memref, WITH the proof: whenever the table phase takes `T` and the
    loaded windows to `T'`, the tables, and the loaded windows, the body takes `T` and the loaded windows to `T'`, the
    tables, the loaded windows and the output memref with those pieces written. -/
noncomputable def mainRun (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole)
    (x1 : Vec F S4x512x768 .i8) (x2 : Vec F S512x192 .f32) (x3 : Vec F S512x192 .f32)
    (lhs : Vec F S24x24x960 .bf16) (ls : Vec F S576x128 .f32) (sz : Vec F S576x128 .f32) :
    { L4 : List (View.Piece (Elt F) S3x1x512 .bf16) //
      ∀ (E : Set ℕ) (T T' : sProp 𝕄)
        (hcut : ∀ Kc : (Σ' (v4 : FVec F S192x256 .f32) (v6 : FVec F S192x256 .f32) (v7 : FVec F S8x256 .f32) (v8 : FVec F S8x256 .f32) (v9 : FVec F S8x256 .f32) (v13 : IVec S32x128 32) (v17 : IVec S32x128 32) (v21 : IVec S32x128 32) (v25 : IVec S32x128 32) (v29 : IVec S32x128 32), Vec F S1x128x128 .i8) → sProp 𝕄, iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ T
            ∗ (iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg8.view.loc (c : Thread nD τ) ↦[arg8.view.set]{fullShare} harg8.unread lhs) ∗ (arg10.view.loc (c : Thread nD τ) ↦[arg10.view.set]{fullShare} harg10.unread ls) ∗ (arg11.view.loc (c : Thread nD τ) ↦[arg11.view.set]{fullShare} harg11.unread sz) ∗ T') -∗ Kc (head arg2 harg2 arg3 harg3 arg4 harg4 x1 x2 x3)))
          ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc)
        (K : PUnit → sProp 𝕄),
        iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ d, owns (c : Thread nD τ) arg5 fullShare d) ∗ T
            ∗ (iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ f, arg5.view.loc (c : Thread nD τ) ↦[arg5.view.set]{fullShare} arg5.view.writes (Elt F) f L4) ∗ (arg8.view.loc (c : Thread nD τ) ↦[arg8.view.set]{fullShare} harg8.unread lhs) ∗ (arg10.view.loc (c : Thread nD τ) ↦[arg10.view.set]{fullShare} harg10.unread ls) ∗ (arg11.view.loc (c : Thread nD τ) ↦[arg11.view.set]{fullShare} harg11.unread sz) ∗ T') -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K } := by
  refine ⟨?_, fun E T T' hcut K => ?run⟩
  case run =>
    simp only [cc0__main_kernel_eq_skeleton]; unfold cc0__main_kernel_skel
    simp only [k0_part253_eq_skeleton]; unfold k0_part253_skel
    unfold owns
    rw [wp_bind, wp_bind]
    iintro ⟨H1, H2, H3, ⟨%d4, %f4, -, H4⟩, HT, Hk⟩
    iapply (hcut _)
    isplitl [H1]; · iexact H1
    isplitl [H2]; · iexact H2
    isplitl [H3]; · iexact H3
    isplitl [HT]; · iexact HT
    iintro ⟨H1, H2, H3, HS0, HS2, HS3, HT⟩
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part254_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part255_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part256_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton]
    sl_exec
    sl_step
    iapply Hk
    isplitl [H1]; · iexact H1
    isplitl [H2]; · iexact H2
    isplitl [H3]; · iexact H3
    isplitl [H4]; · iexists _; iexact H4
    isplitl [HS0]; · iexact HS0
    isplitl [HS2]; · iexact HS2
    isplitl [HS3]; · iexact HS3
    iexact HT

end Cert.KernelIdeal.Hand

end
-- ==== Proof.Tile.lean ====
/- The main loop of the kernel, written once per kind of step instead of once per step: the words of a plane tile, the
   four bit positions of each nibble regrouped over the planes, the products of them, one unit of weight groups, and
   the fold over the units of a row. The pieces of `mainRun` are these definitions, by unfolding. -/
module

public import proofs.«01_k».proof.Proof.MainRun

@[expose] public section

set_option maxRecDepth 16384

noncomputable section

namespace Cert.KernelIdeal.Hand

open Cert.KernelIdeal.Gen
open Idealize.ShloMosaic Idealize.ShloMosaic.TcCoe

variable {F : FTy → Type} [FloatOps F]

/-- A plane tile `[outputs, bytes]` as words of four consecutive bytes, outputs along the lanes. -/
def word (v : Vec F S1x128x128 .i8) : IVec S32x128 32 :=
  bitcast S32x128 32 (transpose S128x128 [1, 0] (shapeCast S128x128 v shapeCasts_S1x128x128_S128x128) transposes_S128x128_p1_0_S128x128) bitcasts_S128x128_w8_S32x128_w32

/-- Eight rows of packed words lie inside the words. -/
theorem slices_word (r : Fin 4) : S32x128.Slices ![8 * r.val, 0] S8x128 := by
  revert r; decide

/-- Eight consecutive words: one unit of eight weight groups. -/
def rows (r : Fin 4) (w : IVec S32x128 32) : IVec S8x128 32 := extractStridedSlice S8x128 ![8 * r.val, 0] w (slices_word r)

/-- The bits two words exchange, `k` apart, at the positions of `mask`. -/
def swapT (k mask : BitVec 32) (a b : IVec S8x128 32) : IVec S8x128 32 :=
  andi (xori (shrsi a (broadcast S8x128 k)) b) (broadcast S8x128 mask)
/-- The first word after the exchange. -/
def swapL (k mask : BitVec 32) (a b : IVec S8x128 32) : IVec S8x128 32 := xori a (shli (swapT k mask a b) (broadcast S8x128 k))
/-- The second word after the exchange. -/
def swapR (k mask : BitVec 32) (a b : IVec S8x128 32) : IVec S8x128 32 := xori b (swapT k mask a b)

/-- Bit `j` of every nibble, collected over the four planes: bit `p` of the result's nibble is bit `j` of plane `p`'s. -/
def quadBits (a : Fin 4 → IVec S8x128 32) (j : Fin 4) : IVec S8x128 32 :=
  match j with
  | 0 => swapL 2#32 858993459#32 (swapL 1#32 1431655765#32 (a 0) (a 1)) (swapL 1#32 1431655765#32 (a 2) (a 3))
  | 1 => swapL 2#32 858993459#32 (swapR 1#32 1431655765#32 (a 0) (a 1)) (swapR 1#32 1431655765#32 (a 2) (a 3))
  | 2 => swapR 2#32 858993459#32 (swapL 1#32 1431655765#32 (a 0) (a 1)) (swapL 1#32 1431655765#32 (a 2) (a 3))
  | 3 => swapR 2#32 858993459#32 (swapR 1#32 1431655765#32 (a 0) (a 1)) (swapR 1#32 1431655765#32 (a 2) (a 3))

/-- The low nibbles of every byte. -/
def nibE (q : IVec S8x128 32) : IVec S8x128 32 := andi q (broadcast S8x128 252645135#32)
/-- The high nibbles of every byte. -/
def nibO (q : IVec S8x128 32) : IVec S8x128 32 := andi (shrsi q (broadcast S8x128 4#32)) (broadcast S8x128 252645135#32)

/-- The product (bitwise and) of the words of the nonempty subset `k` (bit `j` set: word `j` is a factor). -/
def mono (e : Fin 4 → IVec S8x128 32) (k : Fin 16) : IVec S8x128 32 :=
  match k.val with
  | 0 => e 0
  | 1 => e 0
  | 2 => e 1
  | 3 => andi (e 1) (e 0)
  | 4 => e 2
  | 5 => andi (e 2) (e 0)
  | 6 => andi (e 2) (e 1)
  | 7 => andi (andi (e 2) (e 1)) (e 0)
  | 8 => e 3
  | 9 => andi (e 3) (e 0)
  | 10 => andi (e 3) (e 1)
  | 11 => andi (andi (e 3) (e 1)) (e 0)
  | 12 => andi (e 3) (e 2)
  | 13 => andi (andi (e 3) (e 2)) (e 0)
  | 14 => andi (andi (e 3) (e 2)) (e 1)
  | _ => andi (andi (andi (e 3) (e 2)) (e 1)) (e 0)

/-- The thirty feature words of a unit: the fifteen products of the low nibbles, then those of the high nibbles. -/
def feats (q : Fin 4 → IVec S8x128 32) : IVec S240x128 32 :=
  concatenate S240x128 0 [⟨S8x128, mono (fun j => nibE (q j)) 1⟩, ⟨S8x128, mono (fun j => nibE (q j)) 2⟩, ⟨S8x128, mono (fun j => nibE (q j)) 3⟩, ⟨S8x128, mono (fun j => nibE (q j)) 4⟩, ⟨S8x128, mono (fun j => nibE (q j)) 5⟩,
    ⟨S8x128, mono (fun j => nibE (q j)) 6⟩, ⟨S8x128, mono (fun j => nibE (q j)) 7⟩, ⟨S8x128, mono (fun j => nibE (q j)) 8⟩, ⟨S8x128, mono (fun j => nibE (q j)) 9⟩, ⟨S8x128, mono (fun j => nibE (q j)) 10⟩,
    ⟨S8x128, mono (fun j => nibE (q j)) 11⟩, ⟨S8x128, mono (fun j => nibE (q j)) 12⟩, ⟨S8x128, mono (fun j => nibE (q j)) 13⟩, ⟨S8x128, mono (fun j => nibE (q j)) 14⟩, ⟨S8x128, mono (fun j => nibE (q j)) 15⟩,
    ⟨S8x128, mono (fun j => nibO (q j)) 1⟩, ⟨S8x128, mono (fun j => nibO (q j)) 2⟩, ⟨S8x128, mono (fun j => nibO (q j)) 3⟩, ⟨S8x128, mono (fun j => nibO (q j)) 4⟩, ⟨S8x128, mono (fun j => nibO (q j)) 5⟩,
    ⟨S8x128, mono (fun j => nibO (q j)) 6⟩, ⟨S8x128, mono (fun j => nibO (q j)) 7⟩, ⟨S8x128, mono (fun j => nibO (q j)) 8⟩, ⟨S8x128, mono (fun j => nibO (q j)) 9⟩, ⟨S8x128, mono (fun j => nibO (q j)) 10⟩,
    ⟨S8x128, mono (fun j => nibO (q j)) 11⟩, ⟨S8x128, mono (fun j => nibO (q j)) 12⟩, ⟨S8x128, mono (fun j => nibO (q j)) 13⟩, ⟨S8x128, mono (fun j => nibO (q j)) 14⟩, ⟨S8x128, mono (fun j => nibO (q j)) 15⟩] concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S240x128_d0

/-- The features of one plane-tile column, as float8 bytes. -/
def featCol (r : Fin 4) (w : Fin 4 → Vec F S1x128x128 .i8) : FVec F S960x128 .fp8e4m3 :=
  bitcastToFloat .fp8e4m3 (bitcast S960x128 8 (feats (quadBits fun p => rows r (word (w p)))) bitcasts_S240x128_w32_S960x128_w8)

/-- The table sums of one unit: the unit's left operand against the features of the two output columns. -/
def unitDot (r : Fin 4) (w : Fin 2 → Fin 4 → Vec F S1x128x128 .i8) (lhs : Vec F S1x24x960 .bf16) : FVec F S24x256 .f32 :=
  matmul dot_S24x960_S960x256_S24x256_1_0_0_1_n_n none (shapeCast S24x960 lhs shapeCasts_S1x24x960_S24x960)
    (concatenate S960x256 1 [⟨S960x128, featCol r (w 0)⟩, ⟨S960x128, featCol r (w 1)⟩] concatenates_S960x128_S960x128_S960x256_d1)
    (constant S24x256 .f32 0x00000000#32)

/-- A token's rows lie inside the product. -/
theorem slices_tok (tok : Fin 3) : S24x256.Slices ![8 * tok.val, 0] S8x256 := by
  revert tok; decide
/-- A unit's rows lie inside the parameters. -/
theorem slices_par (u : Fin 24) : S192x256.Slices ![8 * u.val, 0] S8x256 := by
  revert u; decide

/-- The lanes twice. -/
def dup (v : Vec F S8x128 .f32) : FVec F S8x256 .f32 :=
  concatenate S8x256 1 [⟨S8x128, v⟩, ⟨S8x128, v⟩] concatenates_S8x128_S8x128_S8x256_d1

/-- What one unit adds to a token's eight partial rows. -/
def unitTerm (tok : Fin 3) (u : Fin 24) (dot : FVec F S24x256 .f32) (wsT wzT : FVec F S192x256 .f32) (sz ls : Vec F S8x128 .f32) : FVec F S8x256 .f32 :=
  mulf (subf (extractStridedSlice S8x256 ![8 * tok.val, 0] dot (slices_tok tok)) (mulf (extractStridedSlice S8x256 ![8 * u.val, 0] wzT (slices_par u)) (dup sz)))
    (mulf (extractStridedSlice S8x256 ![8 * u.val, 0] wsT (slices_par u)) (dup ls))

/-- The units, in the order the body takes them. -/
abbrev units : List (Fin 24) := [0, 1, 2, 3, 4, 5, 6, 7, 8, 9, 10, 11, 12, 13, 14, 15, 16, 17, 18, 19, 20, 21, 22, 23]

/-- The position of a unit among the four of its byte tile. -/
def unitRow (u : Fin 24) : Fin 4 := ⟨u.val % 4, Nat.mod_lt _ (by decide)⟩
/-- The byte tile of a unit. -/
def unitTile (u : Fin 24) : Fin 6 := ⟨u.val / 4, by omega⟩

/-- The partial rows of one token over one output tile: the units folded from zero. -/
def accY (tok : Fin 3) (w : Fin 6 → Fin 2 → Fin 4 → Vec F S1x128x128 .i8) (wsT wzT : FVec F S192x256 .f32)
    (lhs : Fin 24 → Vec F S1x24x960 .bf16) (sz ls : Fin 24 → Vec F S8x128 .f32) : FVec F S8x256 .f32 :=
  units.foldl (fun a u => addf a (unitTerm tok u (unitDot (unitRow u) (w (unitTile u)) (lhs u)) wsT wzT (sz u) (ls u)))
    (broadcast S8x256 (Scalar.ofBits .f32 0x00000000#32))

/-- What is stored for one token and output tile: the sum of the eight partial rows, rounded. -/
def tileY (a : FVec F S8x256 .f32) : FVec F S1x1x256 .bf16 :=
  shapeCast S1x1x256 (truncf .bf16 (shapeCast S1x256 (multiReduction .add [0] S256 a 0x00000000#32 reduces_S8x256_S256 (.inl rfl) rfl) shapeCasts_S256_S1x256) bitsLt_bf16_f32) shapeCasts_S1x256_S1x1x256

/-- A tile of a weight plane lies inside the block. -/
theorem inb_plane (nt : Fin 2) (j : Fin 6) (cc : Fin 2) (p : Fin 4) :
    ∀ a, (![p.val, nt.val * 256 + cc.val * 128, j.val * 128] : Fin 3 → Nat) a + S1x128x128.size a ≤ S4x512x768.size a := by
  revert nt j cc p; decide
/-- A unit's left operand lies inside its table. -/
theorem inb_lhs (u : Fin 24) : ∀ a, (![u.val, 0, 0] : Fin 3 → Nat) a + S1x24x960.size a ≤ S24x24x960.size a := by
  revert u; decide
/-- A unit's rows of a token lie inside the scratch table. -/
theorem inb_row (tok : Fin 3) (u : Fin 24) : ∀ a, (![tok.val * 192 + 8 * u.val, 0] : Fin 2 → Nat) a + S8x128.size a ≤ S576x128.size a := by
  revert tok u; decide
/-- A tile of the parameters lies inside the block. -/
theorem inb_par (nt : Fin 2) : ∀ a, (![nt.val * 256, 0] : Fin 2 → Nat) a + S256x192.size a ≤ S512x192.size a := by
  revert nt; decide
/-- A tile of y lies inside the block. -/
theorem inb_out (tok : Fin 3) (nt : Fin 2) : ∀ a, (![tok.val, 0, nt.val * 256] : Fin 3 → Nat) a + S1x1x256.size a ≤ S3x1x512.size a := by
  revert tok nt; decide

/-- What the body stores for token `tok` and output tile `nt`, from loads of the windows and of the tables. -/
def pieceY (arg2 : Memref sig .tc .vmem S4x512x768 .i8) (harg2 : arg2.IsWhole) (arg3 : Memref sig .tc .vmem S512x192 .f32) (harg3 : arg3.IsWhole)
    (arg4 : Memref sig .tc .vmem S512x192 .f32) (harg4 : arg4.IsWhole) (arg8 : Memref sig .tc .vmem S24x24x960 .bf16) (harg8 : arg8.IsWhole)
    (arg10 : Memref sig .tc .vmem S576x128 .f32) (harg10 : arg10.IsWhole) (arg11 : Memref sig .tc .vmem S576x128 .f32) (harg11 : arg11.IsWhole)
    (x1 : Vec F S4x512x768 .i8) (x2 : Vec F S512x192 .f32) (x3 : Vec F S512x192 .f32)
    (lhs : Vec F S24x24x960 .bf16) (ls : Vec F S576x128 .f32) (sz : Vec F S576x128 .f32) (tok : Fin 3) (nt : Fin 2) : FVec F S1x1x256 .bf16 :=
  tileY (accY tok
    (fun j cc p => View.readAt (Elt F) arg2.view (Rect.unit (s := S4x512x768) ![p.val, nt.val * 256 + cc.val * 128, j.val * 128] S1x128x128.size (inb_plane nt j cc p)).toLoadRect (harg2.unread x1))
    (transpose S192x256 [1, 0] (View.readAt (Elt F) arg3.view (Rect.unit (s := S512x192) ![nt.val * 256, 0] S256x192.size (inb_par nt)).toLoadRect (harg3.unread x2)) transposes_S256x192_p1_0_S192x256)
    (transpose S192x256 [1, 0] (View.readAt (Elt F) arg4.view (Rect.unit (s := S512x192) ![nt.val * 256, 0] S256x192.size (inb_par nt)).toLoadRect (harg4.unread x3)) transposes_S256x192_p1_0_S192x256)
    (fun u => View.readAt (Elt F) arg8.view (Rect.unit (s := S24x24x960) ![u.val, 0, 0] S1x24x960.size (inb_lhs u)).toLoadRect (harg8.unread lhs))
    (fun u => View.readAt (Elt F) arg11.view (Rect.unit (s := S576x128) ![tok.val * 192 + 8 * u.val, 0] S8x128.size (inb_row tok u)).toLoadRect (harg11.unread sz))
    (fun u => View.readAt (Elt F) arg10.view (Rect.unit (s := S576x128) ![tok.val * 192 + 8 * u.val, 0] S8x128.size (inb_row tok u)).toLoadRect (harg10.unread ls)))

set_option maxRecDepth 1000000 in
set_option maxHeartbeats 8000000 in
/-- The pieces of the run are those six stores, the last first. -/
theorem mainRun_pieces (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole)
    (x1 : Vec F S4x512x768 .i8) (x2 : Vec F S512x192 .f32) (x3 : Vec F S512x192 .f32)
    (lhs : Vec F S24x24x960 .bf16) (ls : Vec F S576x128 .f32) (sz : Vec F S576x128 .f32) :
    (mainRun c i arg1 harg1 arg2 harg2 arg3 harg3 arg4 harg4 arg5 harg5 arg6 harg6 arg7 harg7 arg8 harg8 arg9 harg9 arg10 harg10 arg11 harg11 x1 x2 x3 lhs ls sz).1
      = [(2, 1), (1, 1), (0, 1), (2, 0), (1, 0), (0, 0)].map fun p : Fin 3 × Fin 2 =>
          (⟨Rect.unit (s := S3x1x512) ![p.1.val, 0, p.2.val * 256] S1x1x256.size (inb_out p.1 p.2),
            pieceY arg2 harg2 arg3 harg3 arg4 harg4 arg8 harg8 arg10 harg10 arg11 harg11 x1 x2 x3 lhs ls sz p.1 p.2⟩ : View.Piece (Elt F) S3x1x512 .bf16) := by
  rfl

end Cert.KernelIdeal.Hand

end
-- ==== Proof.TabRun.lean ====
/- The table phase of the kernel body (`k0_part20`: the branch the first grid point takes, and the first loads), run in
   both cases of its branch. -/
module

public import proofs.«01_k».proof.Proof.MainRun
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the branch that builds the tables, over the grid coordinates. -/
abbrev condA (i : grid0.Coords) : Prop := (Scalar.cmpi .ne (Scalar.extui (Scalar.cmpi .eq (BitVec.ofNat 32 (i 0).val) 0#32)) 0#32) = 1#1

-- (the run's proof term is large: the definition's epilogue walks past the default budget)
set_option maxHeartbeats 8000000 in set_option sl_exec.stridedRows true in
/-- The pieces the table phase leaves in its outputs and scratch at the first grid point, WITH the proof. -/
noncomputable def tabRun (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole) (hc0 : condA i)
    (x0 : Vec F S144x128 .bf16) (x1 : Vec F S4x512x768 .i8) (x2 : Vec F S512x192 .f32) (x3 : Vec F S512x192 .f32) :
    Σ' (L5 : List (View.Piece (Elt F) S144x512 .i8)), Σ' (L6 : List (View.Piece (Elt F) S3x1x48 .f32)), Σ' (LS0 : List (View.Piece (Elt F) S24x24x960 .bf16)), Σ' (LS1 : List (View.Piece (Elt F) S576x128 .f32)), Σ' (LS2 : List (View.Piece (Elt F) S576x128 .f32)), { LS3 : List (View.Piece (Elt F) S576x128 .f32) //
      ∀ (E : Set ℕ) (Kc : (Σ' (v4 : FVec F S192x256 .f32) (v6 : FVec F S192x256 .f32) (v7 : FVec F S8x256 .f32) (v8 : FVec F S8x256 .f32) (v9 : FVec F S8x256 .f32) (v13 : IVec S32x128 32) (v17 : IVec S32x128 32) (v21 : IVec S32x128 32) (v25 : IVec S32x128 32) (v29 : IVec S32x128 32), Vec F S1x128x128 .i8) → sProp 𝕄),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ Kc (head arg2 harg2 arg3 harg3 arg4 harg4 x1 x2 x3)))
          ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc } := by
  refine ⟨?_, ?_, ?_, ?_, ?_, ?_, fun E Kc => ?run⟩
  case run =>
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨H0, H1, H2, H3, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    sl_exec (disch := first | sl_exact hc0)
    sl_step
    iapply Hk
    isplitl [H0]; · iexact H0
    isplitl [H1]; · iexact H1
    isplitl [H2]; · iexact H2
    isplitl [H3]; · iexact H3
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

/-- At every other grid point the phase only loads: nothing changes. -/
theorem tabRunB (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole) (hc0 : ¬ condA i)
    (x1 : Vec F S4x512x768 .i8) (x2 : Vec F S512x192 .f32) (x3 : Vec F S512x192 .f32)
    (E : Set ℕ) (Kc : (Σ' (v4 : FVec F S192x256 .f32) (v6 : FVec F S192x256 .f32) (v7 : FVec F S8x256 .f32) (v8 : FVec F S8x256 .f32) (v9 : FVec F S8x256 .f32) (v13 : IVec S32x128 32) (v17 : IVec S32x128 32) (v21 : IVec S32x128 32) (v25 : IVec S32x128 32) (v29 : IVec S32x128 32), Vec F S1x128x128 .i8) → sProp 𝕄) :
    iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3)
        ∗ (iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3)) -∗ Kc (head arg2 harg2 arg3 harg3 arg4 harg4 x1 x2 x3)))
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc := by
  simp only [k0_part20_eq_skeleton]; unfold k0_part20_skel
  iintro ⟨H1, H2, H3, Hk⟩
  sl_exec (disch := first | sl_exact hc0)
  sl_step
  iapply Hk
  isplitl [H1]; · iexact H1
  isplitl [H2]; · iexact H2
  iexact H3

end Cert.KernelIdeal.Hand

end
-- ==== Proof.Tables.lean ====
/- The tables the first grid point builds, written once per kind: the subset sums and their quantisation, the codes and
   scales spread over rows of a weight group each, the selector and Moebius tables, and the left operands of the units.
   The pieces of `tabRun` are these definitions, by unfolding. -/
module

public import proofs.«01_k».proof.Proof.Tile
public import proofs.«01_k».proof.Proof.TabRun

@[expose] public section

set_option maxRecDepth 16384

noncomputable section

namespace Cert.KernelIdeal.Hand

open Cert.KernelIdeal.Gen
open Idealize.ShloMosaic Idealize.ShloMosaic.TcCoe

variable {F : FTy → Type} [FloatOps F]

/-- The columns of a table row. -/
abbrev colsT : IVec S128x512 32 := iota .tc S128x512 32 [1] iota_S128x512_d1_w32
/-- The rows of a selector. -/
abbrev rowsT : IVec S128x512 32 := iota .tc S128x512 32 [0] iota_S128x512_d0_w32

/-- The subset sums of every quad of a scale group: group `r`, column `16 * quad + entry`. -/
def tabT (xb : FVec F S144x128 .bf16) : FVec F S144x512 .f32 :=
  k0_pay10 (k0_pay4 xb) rowsT k0_pay5 k0_pay6 (k0_pay7 (k0_pay4 xb) rowsT k0_pay5 k0_pay6 4#32) (k0_pay8 rowsT k0_pay5) (k0_pay9 k0_pay6)
/-- The scale of every group. -/
def tabScale (xb : FVec F S144x128 .bf16) : FVec F S144x1 .f32 :=
  k0_pay11 (k0_pay4 xb) rowsT k0_pay5 k0_pay6 (k0_pay7 (k0_pay4 xb) rowsT k0_pay5 k0_pay6 4#32) (k0_pay8 rowsT k0_pay5) (k0_pay9 k0_pay6)
/-- The codes, still as floats. -/
def tabCode (xb : FVec F S144x128 .bf16) : FVec F S144x512 .f32 :=
  minimumf (broadcast S144x512 (Scalar.ofBits .f32 0x42FE0000#32)) (maximumf (broadcast S144x512 (Scalar.ofBits .f32 0xC2FE0000#32))
    (roundeven (divf (tabT xb) (broadcastTo S144x512 (tabScale xb) broadcasts_S144x1_S144x512))))
/-- The codes. -/
def tabCodeI (xb : FVec F S144x128 .bf16) : IVec S144x512 8 := fptosi 8 (tabCode xb)
/-- The scales over the lanes. -/
def tabScaleL (xb : FVec F S144x128 .bf16) : FVec F S144x128 .f32 :=
  broadcastTo S144x128 (shapeCast S144x1 (tabScale xb) shapeCasts_S144x1_S144x1) broadcasts_S144x1_S144x128

/-- A quarter of the table's columns lies inside it. -/
theorem slices_quarter (q : Fin 4) : S144x512.Slices ![0, 128 * q.val] S144x128 := by
  revert q; decide
/-- Every fourth row of a scratch table lies inside it. -/
theorem inb_quarter (q : Fin 4) : ∀ a, S144x128.size a = 0 ∨ (![q.val, 0] : Fin 2 → Nat) a + (![4, 1] : Fin 2 → Nat) a * (S144x128.size a - 1) < S576x128.size a := by
  revert q; decide
/-- A token's rows lie inside the scales. -/
theorem slices_scale (t : Fin 3) : S144x128.Slices ![48 * t.val, 0] S48x128 := by
  revert t; decide
/-- A token's scales lie inside their block. -/
theorem inb_scale (t : Fin 3) : ∀ a, (![t.val, 0, 0] : Fin 3 → Nat) a + S1x1x48.size a ≤ S3x1x48.size a := by
  revert t; decide

/-- The quarter of the codes one quad of weight groups takes. -/
def quarter (xb : FVec F S144x128 .bf16) (q : Fin 4) : FVec F S144x128 .f32 :=
  shapeCast S144x128 (extractStridedSlice S144x128 ![0, 128 * q.val] (tabCode xb) (slices_quarter q)) shapeCasts_S144x128_S144x128

/-- Row `4 * r + q` of the code rows is quarter `q` of group `r`: four strided stores. -/
def csPieces (xb : FVec F S144x128 .bf16) : List (View.Piece (Elt F) S576x128 .f32) :=
  [(3 : Fin 4), 2, 1, 0].map fun q => ⟨{ off := ![q.val, 0], size := S144x128.size, stride := ![4, 1], inb := inb_quarter q, stride_pos := by decide }, quarter xb q⟩
/-- Row `4 * r + q` of the scale rows is the scale of group `r`. -/
def lsPieces (xb : FVec F S144x128 .bf16) : List (View.Piece (Elt F) S576x128 .f32) :=
  [(3 : Fin 4), 2, 1, 0].map fun q => ⟨{ off := ![q.val, 0], size := S144x128.size, stride := ![4, 1], inb := inb_quarter q, stride_pos := by decide },
    shapeCast S144x128 (tabScaleL xb) shapeCasts_S144x128_S144x128⟩

/-- The scales of one token, along the lanes. -/
def scaleRow (xb : FVec F S144x128 .bf16) (t : Fin 3) : FVec F S1x1x48 .f32 :=
  shapeCast S1x1x48 (extractStridedSlice S1x48 ![0, 0] (shapeCast S1x128 (multiReduction .add [0] S128
    (select (cmpi .eq (iota .tc S48x128 32 [0] iota_S48x128_d0_w32) (iota .tc S48x128 32 [1] iota_S48x128_d1_w32))
      (extractStridedSlice S48x128 ![48 * t.val, 0] (tabScaleL xb) (slices_scale t)) (broadcast S48x128 (Scalar.ofBits .f32 0x00000000#32)))
    0x00000000#32 reduces_S48x128_S128 (.inl rfl) rfl) shapeCasts_S128_S1x128) slices_S1x128_o0_0_S1x48) shapeCasts_S1x48_S1x1x48

/-- The columns of the Moebius table. -/
abbrev colsM : IVec S128x960 32 := iota .tc S128x960 32 [1] iota_S128x960_d1_w32
/-- The lanes of the Moebius table. -/
abbrev lanesM : IVec S128x960 32 := iota .tc S128x960 32 [0] iota_S128x960_d0_w32
/-- The subset of a column. -/
def subsetM : IVec S128x960 32 := k0_pay34 colsM 32#32 k0_pay29 k0_pay30 (Scalar.extui (Scalar.cmpi .sgt 32#32 0#32)) (Scalar.cmpi .slt 32#32 0#32)
/-- Whether a column is for the high nibbles. -/
def oddM : IVec S128x960 32 := k0_pay33 colsM 32#32 k0_pay29 k0_pay30 (Scalar.extui (Scalar.cmpi .sgt 32#32 0#32)) (Scalar.cmpi .slt 32#32 0#32)
/-- The entry of a lane. -/
def entM : IVec S128x960 32 := k0_pay37 16#32 (k0_pay35 lanesM) k0_pay36
/-- The parity of the difference of subset and entry. -/
def parM : IVec S128x960 32 := k0_pay38 subsetM 16#32 (k0_pay35 lanesM) k0_pay36
/-- The Moebius table. -/
def mob : FVec F S128x960 .bf16 := k0_pay41 subsetM entM parM (k0_pay39 lanesM) (k0_pay40 (k0_pay32 colsM) oddM)
/-- Where a row's weight group is the column's. -/
def keep : IVec S24x960 1 := k0_pay47 k0_pay42 32#32 k0_pay43 k0_pay44 k0_pay45 k0_pay46

/-- The left operand of a unit, from its code rows. -/
def lhsUnit (cs : Fin 3 → Vec F S8x128 .f32) : FVec F S1x24x960 .bf16 :=
  shapeCast S1x24x960 (truncf .bf16 (select keep
    (matmul dot_S24x128_S128x960_S24x960_1_0_0_1_n_n none (truncf .bf16 (concatenate S24x128 0 [⟨S8x128, cs 0⟩, ⟨S8x128, cs 1⟩, ⟨S8x128, cs 2⟩] concatenates_S8x128_S8x128_S8x128_S24x128_d0) bitsLt_bf16_f32)
      mob (constant S24x960 .f32 0x00000000#32))
    (broadcast S24x960 (Scalar.ofBits .f32 0x00000000#32))) bitsLt_bf16_f32) shapeCasts_S24x960_S1x24x960

/-- The units, the last first. -/
abbrev unitsR : List (Fin 24) := [23, 22, 21, 20, 19, 18, 17, 16, 15, 14, 13, 12, 11, 10, 9, 8, 7, 6, 5, 4, 3, 2, 1, 0]

/-- The left operands, one store per unit, from loads `rd` of the code rows. -/
def lhsPieces (rd : Fin 3 → Fin 24 → Vec F S8x128 .f32) : List (View.Piece (Elt F) S24x24x960 .bf16) :=
  unitsR.map fun u => ⟨Rect.unit (s := S24x24x960) ![u.val, 0, 0] S1x24x960.size (inb_lhs u), lhsUnit fun t => rd t u⟩

/-- The sums of the last entries, from a load of the code rows. -/
def szOf (cs : Vec F S576x128 .f32) : FVec F S576x128 .f32 := k0_pay28 (iota .tc S128x128 32 [0] iota_S128x128_d0_w32) 16#32 0#32 cs

/-- The load of the activations. -/
abbrev xload (arg1 : Memref sig .tc .vmem S144x128 .bf16) (harg1 : arg1.IsWhole) (x0 : Vec F S144x128 .bf16) : Vec F S144x128 .bf16 :=
  View.readAt (Elt F) arg1.view (Rect.unit (s := S144x128) ![0, 0] S144x128.size inb_S144x128_S144x128_0_0).toLoadRect (harg1.unread x0)

section
variable (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole) (hc0 : condA i)
  (x0 : Vec F S144x128 .bf16) (x1 : Vec F S4x512x768 .i8) (x2 : Vec F S512x192 .f32) (x3 : Vec F S512x192 .f32)

set_option maxRecDepth 1000000 in
set_option maxHeartbeats 8000000 in
/-- The codes stored. -/
theorem tabRun_codes : (tabRun c i arg1 harg1 arg2 harg2 arg3 harg3 arg4 harg4 arg5 harg5 arg6 harg6 arg7 harg7 arg8 harg8 arg9 harg9 arg10 harg10 arg11 harg11 hc0 x0 x1 x2 x3).1 = [⟨Rect.unit (s := S144x512) ![0, 0] S144x512.size inb_S144x512_S144x512_0_0, tabCodeI (xload arg1 harg1 x0)⟩] := by rfl

set_option maxRecDepth 1000000 in
set_option maxHeartbeats 8000000 in
/-- The scales stored, a token each. -/
theorem tabRun_scales : (tabRun c i arg1 harg1 arg2 harg2 arg3 harg3 arg4 harg4 arg5 harg5 arg6 harg6 arg7 harg7 arg8 harg8 arg9 harg9 arg10 harg10 arg11 harg11 hc0 x0 x1 x2 x3).2.1 = [(2 : Fin 3), 1, 0].map fun t => ⟨Rect.unit (s := S3x1x48) ![t.val, 0, 0] S1x1x48.size (inb_scale t), scaleRow (xload arg1 harg1 x0) t⟩ := by rfl

set_option maxRecDepth 1000000 in
set_option maxHeartbeats 8000000 in
/-- The left operands stored. -/
theorem tabRun_lhs : (tabRun c i arg1 harg1 arg2 harg2 arg3 harg3 arg4 harg4 arg5 harg5 arg6 harg6 arg7 harg7 arg8 harg8 arg9 harg9 arg10 harg10 arg11 harg11 hc0 x0 x1 x2 x3).2.2.1 = lhsPieces fun t u => arg9.view.readCov (csPieces (xload arg1 harg1 x0)) (Rect.unit (s := S576x128) ![t.val * 192 + 8 * u.val, 0] S8x128.size (inb_row t u)).toLoadRect := by rfl

set_option maxRecDepth 1000000 in
set_option maxHeartbeats 8000000 in
/-- The code rows stored. -/
theorem tabRun_cs : (tabRun c i arg1 harg1 arg2 harg2 arg3 harg3 arg4 harg4 arg5 harg5 arg6 harg6 arg7 harg7 arg8 harg8 arg9 harg9 arg10 harg10 arg11 harg11 hc0 x0 x1 x2 x3).2.2.2.1 = csPieces (xload arg1 harg1 x0) := by rfl

set_option maxRecDepth 1000000 in
set_option maxHeartbeats 8000000 in
/-- The scale rows stored. -/
theorem tabRun_ls : (tabRun c i arg1 harg1 arg2 harg2 arg3 harg3 arg4 harg4 arg5 harg5 arg6 harg6 arg7 harg7 arg8 harg8 arg9 harg9 arg10 harg10 arg11 harg11 hc0 x0 x1 x2 x3).2.2.2.2.1 = lsPieces (xload arg1 harg1 x0) := by rfl

set_option maxRecDepth 1000000 in
set_option maxHeartbeats 8000000 in
/-- The sums stored. -/
theorem tabRun_sz : (tabRun c i arg1 harg1 arg2 harg2 arg3 harg3 arg4 harg4 arg5 harg5 arg6 harg6 arg7 harg7 arg8 harg8 arg9 harg9 arg10 harg10 arg11 harg11 hc0 x0 x1 x2 x3).2.2.2.2.2.1 = [⟨Rect.unit (s := S576x128) ![0, 0] S576x128.size inb_S576x128_S576x128_0_0, szOf (arg9.view.readCov (csPieces (xload arg1 harg1 x0)) (Rect.unit (s := S576x128) ![0, 0] S576x128.size inb_S576x128_S576x128_0_0).toLoadRect)⟩] := by rfl

end

end Cert.KernelIdeal.Hand

end
-- ==== Proof.Body.lean ====
/- What the kernel body does at a grid point, in terms of the contents of its memrefs: at the first point it builds the
   tables of the activations' block and stores the codes and the scales; at every point it stores the output tile those
   tables give with the point's blocks of planes, scales and zeros. -/
module

public import proofs.«01_k».proof.Proof.Tables
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes spread over rows of a weight group each. -/
def csV (x : Vec F S144x128 .bf16) : Vec F S576x128 .f32 := View.canon (csPieces x)
/-- The scales spread the same way. -/
def lsV (x : Vec F S144x128 .bf16) : Vec F S576x128 .f32 := View.canon (lsPieces x)
/-- The pieces of the units' left operands. -/
def lhsL (x : Vec F S144x128 .bf16) : List (View.Piece (Elt F) S24x24x960 .bf16) :=
  lhsPieces fun t u j => csV x ((Rect.unit (s := S576x128) ![t.val * 192 + 8 * u.val, 0] S8x128.size (inb_row t u)).toLoadRect.idx j)
/-- The units' left operands. -/
def lhsV (x : Vec F S144x128 .bf16) : Vec F S24x24x960 .bf16 := View.canon (lhsL x)
/-- The one piece of the sums of the last entries' codes. -/
def szL (x : Vec F S144x128 .bf16) : List (View.Piece (Elt F) S576x128 .f32) :=
  [⟨Rect.unit (s := S576x128) ![0, 0] S576x128.size inb_S576x128_S576x128_0_0,
    szOf fun j => csV x ((Rect.unit (s := S576x128) ![0, 0] S576x128.size inb_S576x128_S576x128_0_0).toLoadRect.idx j)⟩]
/-- The sums of the last entries' codes of a weight group's quads. -/
def szV (x : Vec F S144x128 .bf16) : Vec F S576x128 .f32 := View.canon (szL x)
/-- The one piece of the codes. -/
def codesL (x : Vec F S144x128 .bf16) : List (View.Piece (Elt F) S144x512 .i8) :=
  [⟨Rect.unit (s := S144x512) ![0, 0] S144x512.size inb_S144x512_S144x512_0_0, tabCodeI x⟩]
/-- The codes stored. -/
def codesV (x : Vec F S144x128 .bf16) : Vec F S144x512 .i8 := View.canon (codesL x)
/-- The pieces of the scales. -/
def scalesL (x : Vec F S144x128 .bf16) : List (View.Piece (Elt F) S3x1x48 .f32) :=
  [2, 1, 0].map fun t : Fin 3 => ⟨Rect.unit (s := S3x1x48) ![t.val, 0, 0] S1x1x48.size (inb_scale t), scaleRow x t⟩
/-- The scales stored. -/
def scalesV (x : Vec F S144x128 .bf16) : Vec F S3x1x48 .f32 := View.canon (scalesL x)

/-- The output tile of token `tok` and half `nt`, from the contents of the blocks and of the tables. -/
def pieceV (x1 : Vec F S4x512x768 .i8) (x2 : Vec F S512x192 .f32) (x3 : Vec F S512x192 .f32)
    (lhs : Vec F S24x24x960 .bf16) (ls : Vec F S576x128 .f32) (sz : Vec F S576x128 .f32) (tok : Fin 3) (nt : Fin 2) : FVec F S1x1x256 .bf16 :=
  tileY (accY tok
    (fun j cc p y => x1 ((Rect.unit (s := S4x512x768) ![p.val, nt.val * 256 + cc.val * 128, j.val * 128] S1x128x128.size (inb_plane nt j cc p)).toLoadRect.idx y))
    (transpose S192x256 [1, 0] (fun y => x2 ((Rect.unit (s := S512x192) ![nt.val * 256, 0] S256x192.size (inb_par nt)).toLoadRect.idx y)) transposes_S256x192_p1_0_S192x256)
    (transpose S192x256 [1, 0] (fun y => x3 ((Rect.unit (s := S512x192) ![nt.val * 256, 0] S256x192.size (inb_par nt)).toLoadRect.idx y)) transposes_S256x192_p1_0_S192x256)
    (fun u y => lhs ((Rect.unit (s := S24x24x960) ![u.val, 0, 0] S1x24x960.size (inb_lhs u)).toLoadRect.idx y))
    (fun u y => sz ((Rect.unit (s := S576x128) ![tok.val * 192 + 8 * u.val, 0] S8x128.size (inb_row tok u)).toLoadRect.idx y))
    (fun u y => ls ((Rect.unit (s := S576x128) ![tok.val * 192 + 8 * u.val, 0] S8x128.size (inb_row tok u)).toLoadRect.idx y)))

/-- The pieces of the output block. -/
def yL (x1 : Vec F S4x512x768 .i8) (x2 : Vec F S512x192 .f32) (x3 : Vec F S512x192 .f32)
    (lhs : Vec F S24x24x960 .bf16) (ls : Vec F S576x128 .f32) (sz : Vec F S576x128 .f32) : List (View.Piece (Elt F) S3x1x512 .bf16) :=
  [(2, 1), (1, 1), (0, 1), (2, 0), (1, 0), (0, 0)].map fun p : Fin 3 × Fin 2 =>
    ⟨Rect.unit (s := S3x1x512) ![p.1.val, 0, p.2.val * 256] S1x1x256.size (inb_out p.1 p.2), pieceV x1 x2 x3 lhs ls sz p.1 p.2⟩
/-- The output block. -/
def yV (x1 : Vec F S4x512x768 .i8) (x2 : Vec F S512x192 .f32) (x3 : Vec F S512x192 .f32)
    (lhs : Vec F S24x24x960 .bf16) (ls : Vec F S576x128 .f32) (sz : Vec F S576x128 .f32) : Vec F S3x1x512 .bf16 :=
  View.canon (yL x1 x2 x3 lhs ls sz)

/-- The four strided stores of a spread table cover it: row `r` is in the store of offset `r % 4`. -/
theorem quarter_mem (y : S576x128.Idx) (q : Fin 4) (hq : (y 0).val % 4 = q.val) :
    y ∈ ({ off := ![q.val, 0], size := S144x128.size, stride := ![4, 1], inb := inb_quarter q, stride_pos := by decide } : Rect S576x128).set := by
  have h0 : (y 0).val < 576 := (y 0).isLt
  have h1 : (y 1).val < 128 := (y 1).isLt
  rw [LoadRect.mem_set]
  intro a
  match a with
  | 0 => exact ⟨(y 0).val / 4, show (y 0).val / 4 < 144 by omega, show (y 0).val = q.val + 4 * ((y 0).val / 4) by omega⟩
  | 1 => exact ⟨(y 1).val, h1, show (y 1).val = 0 + 1 * (y 1).val by omega⟩

/-- The stores of the spread scales cover their table. -/
theorem ls_cover (x : Vec F S144x128 .bf16) (y : S576x128.Idx) : ∃ pc ∈ lsPieces x, y ∈ pc.1.set := by
  have hq : (y 0).val % 4 < 4 := Nat.mod_lt _ (by decide)
  refine ⟨_, List.mem_map_of_mem (a := (⟨(y 0).val % 4, hq⟩ : Fin 4)) ?_, quarter_mem y ⟨(y 0).val % 4, hq⟩ rfl⟩
  generalize (⟨(y 0).val % 4, hq⟩ : Fin 4) = q
  revert q; decide

/-- The stores of the left operands cover their table. -/
theorem lhs_cover (x : Vec F S144x128 .bf16) (y : S24x24x960.Idx) : ∃ pc ∈ lhsL x, y ∈ pc.1.set :=
  View.cover_of_tiledL (lhsL x) S1x24x960.size (by sl_kernel_rfl) y

/-- The stores of the zero sums cover their table. -/
theorem sz_cover (x : Vec F S144x128 .bf16) (y : S576x128.Idx) : ∃ pc ∈ szL x, y ∈ pc.1.set :=
  View.cover_of_tiledL (szL x) S576x128.size (by sl_kernel_rfl) y

/-- The stores of the codes cover their block. -/
theorem codes_cover (x : Vec F S144x128 .bf16) (y : S144x512.Idx) : ∃ pc ∈ codesL x, y ∈ pc.1.set :=
  View.cover_of_tiledL (codesL x) S144x512.size (by sl_kernel_rfl) y

/-- The stores of the scales cover their block. -/
theorem scales_cover (x : Vec F S144x128 .bf16) (y : S3x1x48.Idx) : ∃ pc ∈ scalesL x, y ∈ pc.1.set :=
  View.cover_of_tiledL (scalesL x) S1x1x48.size (by sl_kernel_rfl) y

/-- The stores of y cover their block. -/
theorem y_cover (x1 : Vec F S4x512x768 .i8) (x2 : Vec F S512x192 .f32) (x3 : Vec F S512x192 .f32)
    (lhs : Vec F S24x24x960 .bf16) (ls : Vec F S576x128 .f32) (sz : Vec F S576x128 .f32) (y : S3x1x512.Idx) : ∃ pc ∈ yL x1 x2 x3 lhs ls sz, y ∈ pc.1.set :=
  View.cover_of_tiledL (yL x1 x2 x3 lhs ls sz) S1x1x256.size (by sl_kernel_rfl) y

/-- The whole block, loaded off contents that read it, is the block. -/
theorem xload_eq (arg1 : Memref sig .tc .vmem S144x128 .bf16) (harg1 : arg1.IsWhole) (x0 : Vec F S144x128 .bf16) : xload arg1 harg1 x0 = x0 := by
  unfold xload
  exact (View.readAt_full _ _ _).trans (harg1.read_unread x0)

/-- The stored tile, loaded off contents that read the blocks and the tables, is the tile of the blocks and the tables. -/
theorem pieceY_eq (arg2 : Memref sig .tc .vmem S4x512x768 .i8) (harg2 : arg2.IsWhole) (arg3 : Memref sig .tc .vmem S512x192 .f32) (harg3 : arg3.IsWhole)
    (arg4 : Memref sig .tc .vmem S512x192 .f32) (harg4 : arg4.IsWhole) (arg8 : Memref sig .tc .vmem S24x24x960 .bf16) (harg8 : arg8.IsWhole)
    (arg10 : Memref sig .tc .vmem S576x128 .f32) (harg10 : arg10.IsWhole) (arg11 : Memref sig .tc .vmem S576x128 .f32) (harg11 : arg11.IsWhole)
    (x1 : Vec F S4x512x768 .i8) (x2 : Vec F S512x192 .f32) (x3 : Vec F S512x192 .f32)
    (lhs : Vec F S24x24x960 .bf16) (ls : Vec F S576x128 .f32) (sz : Vec F S576x128 .f32) (tok : Fin 3) (nt : Fin 2) :
    pieceY arg2 harg2 arg3 harg3 arg4 harg4 arg8 harg8 arg10 harg10 arg11 harg11 x1 x2 x3 lhs ls sz tok nt = pieceV x1 x2 x3 lhs ls sz tok nt := by
  unfold pieceY pieceV
  simp only [View.readAt_eq_ld, harg2.read_unread, harg3.read_unread, harg4.read_unread, harg8.read_unread, harg10.read_unread, harg11.read_unread]
  rfl

section
variable (c : Dev nD) (i : grid0.Coords) (arg1 : Memref sig .tc .vmem S144x128 .bf16) (harg1 : arg1.IsWhole) (arg2 : Memref sig .tc .vmem S4x512x768 .i8) (harg2 : arg2.IsWhole) (arg3 : Memref sig .tc .vmem S512x192 .f32) (harg3 : arg3.IsWhole) (arg4 : Memref sig .tc .vmem S512x192 .f32) (harg4 : arg4.IsWhole) (arg5 : Memref sig .tc .vmem S3x1x512 .bf16) (harg5 : arg5.IsWhole) (arg6 : Memref sig .tc .vmem S144x512 .i8) (harg6 : arg6.IsWhole) (arg7 : Memref sig .tc .vmem S3x1x48 .f32) (harg7 : arg7.IsWhole) (arg8 : Memref sig .tc .vmem S24x24x960 .bf16) (harg8 : arg8.IsWhole) (arg9 : Memref sig .tc .vmem S576x128 .f32) (harg9 : arg9.IsWhole) (arg10 : Memref sig .tc .vmem S576x128 .f32) (harg10 : arg10.IsWhole) (arg11 : Memref sig .tc .vmem S576x128 .f32) (harg11 : arg11.IsWhole)
    (x0 : Vec F S144x128 .bf16) (x1 : Vec F S4x512x768 .i8) (x2 : Vec F S512x192 .f32) (x3 : Vec F S512x192 .f32)

/-- The stores to y that the run makes are the listed ones. -/
theorem main_pieces (lhs : Vec F S24x24x960 .bf16) (ls : Vec F S576x128 .f32) (sz : Vec F S576x128 .f32) :
    (mainRun c i arg1 harg1 arg2 harg2 arg3 harg3 arg4 harg4 arg5 harg5 arg6 harg6 arg7 harg7 arg8 harg8 arg9 harg9 arg10 harg10 arg11 harg11 x1 x2 x3 lhs ls sz).1 = yL x1 x2 x3 lhs ls sz := by
  rw [mainRun_pieces]; unfold yL
  simp only [pieceY_eq]

/-- The stores of left operands that the run makes are the listed ones. -/
theorem tab_lhs (hc0 : condA i) : (tabRun c i arg1 harg1 arg2 harg2 arg3 harg3 arg4 harg4 arg5 harg5 arg6 harg6 arg7 harg7 arg8 harg8 arg9 harg9 arg10 harg10 arg11 harg11 hc0 x0 x1 x2 x3).2.2.1 = lhsL x0 := by
  rw [tabRun_lhs, xload_eq]; unfold lhsL csV
  simp only [View.readCov_eq_canon']
  rfl

/-- The stores of zero sums that the run makes are the listed ones. -/
theorem tab_sz (hc0 : condA i) : (tabRun c i arg1 harg1 arg2 harg2 arg3 harg3 arg4 harg4 arg5 harg5 arg6 harg6 arg7 harg7 arg8 harg8 arg9 harg9 arg10 harg10 arg11 harg11 hc0 x0 x1 x2 x3).2.2.2.2.2.1 = szL x0 := by
  rw [tabRun_sz, xload_eq]; unfold szL csV
  simp only [View.readCov_eq_canon']
  rfl

attribute [local irreducible] tabRun mainRun

/-- Contents written with covering pieces are the contents that read the pieces. -/
theorem writes_eq_unread {s : Shape} {e : EltTy} (a : Memref sig .tc .vmem s e) (ha : a.IsWhole) (L : List (View.Piece (Elt F) s e))
    (h : ∀ y, ∃ p ∈ L, y ∈ p.1.set) (f) : a.view.writes (Elt F) f L = ha.unread (View.canon L) :=
  ha.eq_unread (View.read_writes_eq_canon _ _ _ h)

set_option maxHeartbeats 400000 in
/-- The table phase at the first grid point, with the pieces named. -/
theorem tabA (hc0 : condA i) (E : Set ℕ) (Kc : (Σ' (v4 : FVec F S192x256 .f32) (v6 : FVec F S192x256 .f32) (v7 : FVec F S8x256 .f32) (v8 : FVec F S8x256 .f32) (v9 : FVec F S8x256 .f32) (v13 : IVec S32x128 32) (v17 : IVec S32x128 32) (v21 : IVec S32x128 32) (v25 : IVec S32x128 32) (v29 : IVec S32x128 32), Vec F S1x128x128 .i8) → sProp 𝕄) :
    iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ f, arg6.view.loc (c : Thread nD τ) ↦[arg6.view.set]{fullShare} arg6.view.writes (Elt F) f (codesL x0)) ∗ (∃ f, arg7.view.loc (c : Thread nD τ) ↦[arg7.view.set]{fullShare} arg7.view.writes (Elt F) f (scalesL x0)) ∗ (∃ f, arg8.view.loc (c : Thread nD τ) ↦[arg8.view.set]{fullShare} arg8.view.writes (Elt F) f (lhsL x0)) ∗ (∃ f, arg9.view.loc (c : Thread nD τ) ↦[arg9.view.set]{fullShare} arg9.view.writes (Elt F) f (csPieces x0)) ∗ (∃ f, arg10.view.loc (c : Thread nD τ) ↦[arg10.view.set]{fullShare} arg10.view.writes (Elt F) f (lsPieces x0)) ∗ (∃ f, arg11.view.loc (c : Thread nD τ) ↦[arg11.view.set]{fullShare} arg11.view.writes (Elt F) f (szL x0)))
        -∗ Kc (head arg2 harg2 arg3 harg3 arg4 harg4 x1 x2 x3)))
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc := by
  have e5 := tabRun_codes c i arg1 harg1 arg2 harg2 arg3 harg3 arg4 harg4 arg5 harg5 arg6 harg6 arg7 harg7 arg8 harg8 arg9 harg9 arg10 harg10 arg11 harg11 hc0 x0 x1 x2 x3
  have e6 := tabRun_scales c i arg1 harg1 arg2 harg2 arg3 harg3 arg4 harg4 arg5 harg5 arg6 harg6 arg7 harg7 arg8 harg8 arg9 harg9 arg10 harg10 arg11 harg11 hc0 x0 x1 x2 x3
  have e8 := tab_lhs c i arg1 harg1 arg2 harg2 arg3 harg3 arg4 harg4 arg5 harg5 arg6 harg6 arg7 harg7 arg8 harg8 arg9 harg9 arg10 harg10 arg11 harg11 x0 x1 x2 x3 hc0
  have e9 := tabRun_cs c i arg1 harg1 arg2 harg2 arg3 harg3 arg4 harg4 arg5 harg5 arg6 harg6 arg7 harg7 arg8 harg8 arg9 harg9 arg10 harg10 arg11 harg11 hc0 x0 x1 x2 x3
  have e10 := tabRun_ls c i arg1 harg1 arg2 harg2 arg3 harg3 arg4 harg4 arg5 harg5 arg6 harg6 arg7 harg7 arg8 harg8 arg9 harg9 arg10 harg10 arg11 harg11 hc0 x0 x1 x2 x3
  have e11 := tab_sz c i arg1 harg1 arg2 harg2 arg3 harg3 arg4 harg4 arg5 harg5 arg6 harg6 arg7 harg7 arg8 harg8 arg9 harg9 arg10 harg10 arg11 harg11 x0 x1 x2 x3 hc0
  rw [xload_eq] at e5 e6 e9 e10
  rw [← codesL] at e5
  rw [← scalesL] at e6
  have key : ∀ M5 M6 M8 M9 M10 M11, (tabRun c i arg1 harg1 arg2 harg2 arg3 harg3 arg4 harg4 arg5 harg5 arg6 harg6 arg7 harg7 arg8 harg8 arg9 harg9 arg10 harg10 arg11 harg11 hc0 x0 x1 x2 x3).1 = M5 → (tabRun c i arg1 harg1 arg2 harg2 arg3 harg3 arg4 harg4 arg5 harg5 arg6 harg6 arg7 harg7 arg8 harg8 arg9 harg9 arg10 harg10 arg11 harg11 hc0 x0 x1 x2 x3).2.1 = M6 → (tabRun c i arg1 harg1 arg2 harg2 arg3 harg3 arg4 harg4 arg5 harg5 arg6 harg6 arg7 harg7 arg8 harg8 arg9 harg9 arg10 harg10 arg11 harg11 hc0 x0 x1 x2 x3).2.2.1 = M8
      → (tabRun c i arg1 harg1 arg2 harg2 arg3 harg3 arg4 harg4 arg5 harg5 arg6 harg6 arg7 harg7 arg8 harg8 arg9 harg9 arg10 harg10 arg11 harg11 hc0 x0 x1 x2 x3).2.2.2.1 = M9 → (tabRun c i arg1 harg1 arg2 harg2 arg3 harg3 arg4 harg4 arg5 harg5 arg6 harg6 arg7 harg7 arg8 harg8 arg9 harg9 arg10 harg10 arg11 harg11 hc0 x0 x1 x2 x3).2.2.2.2.1 = M10 → (tabRun c i arg1 harg1 arg2 harg2 arg3 harg3 arg4 harg4 arg5 harg5 arg6 harg6 arg7 harg7 arg8 harg8 arg9 harg9 arg10 harg10 arg11 harg11 hc0 x0 x1 x2 x3).2.2.2.2.2.1 = M11 →
      iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (∃ f, arg6.view.loc (c : Thread nD τ) ↦[arg6.view.set]{fullShare} arg6.view.writes (Elt F) f M5) ∗ (∃ f, arg7.view.loc (c : Thread nD τ) ↦[arg7.view.set]{fullShare} arg7.view.writes (Elt F) f M6) ∗ (∃ f, arg8.view.loc (c : Thread nD τ) ↦[arg8.view.set]{fullShare} arg8.view.writes (Elt F) f M8) ∗ (∃ f, arg9.view.loc (c : Thread nD τ) ↦[arg9.view.set]{fullShare} arg9.view.writes (Elt F) f M9) ∗ (∃ f, arg10.view.loc (c : Thread nD τ) ↦[arg10.view.set]{fullShare} arg10.view.writes (Elt F) f M10) ∗ (∃ f, arg11.view.loc (c : Thread nD τ) ↦[arg11.view.set]{fullShare} arg11.view.writes (Elt F) f M11))
        -∗ Kc (head arg2 harg2 arg3 harg3 arg4 harg4 x1 x2 x3)))
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc := by
    rintro _ _ _ _ _ _ rfl rfl rfl rfl rfl rfl
    exact (tabRun c i arg1 harg1 arg2 harg2 arg3 harg3 arg4 harg4 arg5 harg5 arg6 harg6 arg7 harg7 arg8 harg8 arg9 harg9 arg10 harg10 arg11 harg11 hc0 x0 x1 x2 x3).2.2.2.2.2.2 E Kc
  exact key _ _ _ _ _ _ e5 e6 e8 e9 e10 e11

set_option maxHeartbeats 400000 in
/-- The body at the first grid point. -/
theorem bodyA (hc0 : condA i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yV x1 x2 x3 (lhsV x0) (lsV x0) (szV x0)) ∗ owns (c : Thread nD τ) arg6 fullShare (codesV x0) ∗ owns (c : Thread nD τ) arg7 fullShare (scalesV x0) ∗ owns (c : Thread nD τ) arg8 fullShare (lhsV x0) ∗ (∃ d, owns (c : Thread nD τ) arg9 fullShare d) ∗ owns (c : Thread nD τ) arg10 fullShare (lsV x0) ∗ owns (c : Thread nD τ) arg11 fullShare (szV x0)) -∗ K ⟨⟩))
    ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
  have hcut : ∀ Kc : (Σ' (v4 : FVec F S192x256 .f32) (v6 : FVec F S192x256 .f32) (v7 : FVec F S8x256 .f32) (v8 : FVec F S8x256 .f32) (v9 : FVec F S8x256 .f32) (v13 : IVec S32x128 32) (v17 : IVec S32x128 32) (v21 : IVec S32x128 32) (v25 : IVec S32x128 32) (v29 : IVec S32x128 32), Vec F S1x128x128 .i8) → sProp 𝕄, iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ iprop((arg1.view.loc (c : Thread nD τ) ↦[arg1.view.set]{fullShare} harg1.unread x0) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))
        ∗ (iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg8.view.loc (c : Thread nD τ) ↦[arg8.view.set]{fullShare} harg8.unread (lhsV x0)) ∗ (arg10.view.loc (c : Thread nD τ) ↦[arg10.view.set]{fullShare} harg10.unread (lsV x0)) ∗ (arg11.view.loc (c : Thread nD τ) ↦[arg11.view.set]{fullShare} harg11.unread (szV x0)) ∗ iprop((arg1.view.loc (c : Thread nD τ) ↦[arg1.view.set]{fullShare} harg1.unread x0) ∗ (arg6.view.loc (c : Thread nD τ) ↦[arg6.view.set]{fullShare} harg6.unread (codesV x0)) ∗ (arg7.view.loc (c : Thread nD τ) ↦[arg7.view.set]{fullShare} harg7.unread (scalesV x0)) ∗ (∃ d, owns (c : Thread nD τ) arg9 fullShare d)))
          -∗ Kc (head arg2 harg2 arg3 harg3 arg4 harg4 x1 x2 x3))) ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc := by
    intro Kc
    iintro ⟨H2, H3, H4, ⟨H1, H6, H7, H8, H9, H10, H11⟩, Hk⟩
    iapply (tabA c i arg1 harg1 arg2 harg2 arg3 harg3 arg4 harg4 arg5 harg5 arg6 harg6 arg7 harg7 arg8 harg8 arg9 harg9 arg10 harg10 arg11 harg11 x0 x1 x2 x3 hc0 E Kc)
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iintro ⟨H1, H2, H3, H4, ⟨%f6, H6⟩, ⟨%f7, H7⟩, ⟨%f8, H8⟩, ⟨%f9, H9⟩, ⟨%f10, H10⟩, ⟨%f11, H11⟩⟩
    rw [writes_eq_unread arg6 harg6 _ (codes_cover x0), writes_eq_unread arg7 harg7 _ (scales_cover x0), writes_eq_unread arg8 harg8 _ (lhs_cover x0),
      writes_eq_unread arg10 harg10 _ (ls_cover x0), writes_eq_unread arg11 harg11 _ (sz_cover x0)]
    iapply Hk
    isplitl [H2]; · iexact H2
    isplitl [H3]; · iexact H3
    isplitl [H4]; · iexact H4
    isplitl [H8]; · iexact H8
    isplitl [H10]; · iexact H10
    isplitl [H11]; · iexact H11
    isplitl [H1]; · iexact H1
    isplitl [H6]; · iexact H6
    isplitl [H7]; · iexact H7
    iexists _; unfold owns; iexists _; isplitr; swap; · iexact H9
    ipureintro; rfl
  iintro ⟨H1, H2, H3, H4, H5, H6, H7, H8, H9, H10, H11, Hk⟩
  unfold owns
  icases H1 with ⟨%f1, %hf1, H1⟩
  icases H2 with ⟨%f2, %hf2, H2⟩
  icases H3 with ⟨%f3, %hf3, H3⟩
  icases H4 with ⟨%f4, %hf4, H4⟩
  obtain rfl := harg1.eq_unread hf1
  obtain rfl := harg2.eq_unread hf2
  obtain rfl := harg3.eq_unread hf3
  obtain rfl := harg4.eq_unread hf4
  iapply ((mainRun c i arg1 harg1 arg2 harg2 arg3 harg3 arg4 harg4 arg5 harg5 arg6 harg6 arg7 harg7 arg8 harg8 arg9 harg9 arg10 harg10 arg11 harg11 x1 x2 x3 (lhsV x0) (lsV x0) (szV x0)).2 E _ _ hcut K)
  isplitl [H2]; · iexact H2
  isplitl [H3]; · iexact H3
  isplitl [H4]; · iexact H4
  isplitl [H5]; · iexact H5
  isplitl [H1 H6 H7 H8 H9 H10 H11]
  · isplitl [H1]; · iexact H1
    isplitl [H6]; · iexact H6
    isplitl [H7]; · iexact H7
    isplitl [H8]; · iexact H8
    isplitl [H9]; · iexact H9
    isplitl [H10]; · iexact H10
    iexact H11
  iintro ⟨H2, H3, H4, ⟨%f5, H5⟩, H8, H10, H11, H1, H6, H7, H9⟩
  rw [main_pieces, writes_eq_unread arg5 harg5 _ (y_cover x1 x2 x3 (lhsV x0) (lsV x0) (szV x0))]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]; · iexact H9
  isplitl [H10]
  · iexists _; isplitr; · ipureintro; exact harg10.read_unread _
    iexact H10
  iexists _; isplitr; · ipureintro; exact harg11.read_unread _
  iexact H11

set_option maxHeartbeats 400000 in
/-- The body at a later grid point. -/
theorem bodyB (hc0 : ¬condA i) (lhs : Vec F S24x24x960 .bf16) (ls : Vec F S576x128 .f32) (sz : Vec F S576x128 .f32) (E : Set ℕ) (K : PUnit → sProp 𝕄) :
    iprop(owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare lhs ∗ owns (c : Thread nD τ) arg10 fullShare ls ∗ owns (c : Thread nD τ) arg11 fullShare sz
      ∗ (iprop(owns (c : Thread nD τ) arg2 fullShare x1 ∗ owns (c : Thread nD τ) arg3 fullShare x2 ∗ owns (c : Thread nD τ) arg4 fullShare x3 ∗ owns (c : Thread nD τ) arg5 fullShare (yV x1 x2 x3 lhs ls sz) ∗ owns (c : Thread nD τ) arg8 fullShare lhs ∗ owns (c : Thread nD τ) arg10 fullShare ls ∗ owns (c : Thread nD τ) arg11 fullShare sz) -∗ K ⟨⟩))
    ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11) K := by
  have hcut : ∀ Kc : (Σ' (v4 : FVec F S192x256 .f32) (v6 : FVec F S192x256 .f32) (v7 : FVec F S8x256 .f32) (v8 : FVec F S8x256 .f32) (v9 : FVec F S8x256 .f32) (v13 : IVec S32x128 32) (v17 : IVec S32x128 32) (v21 : IVec S32x128 32) (v25 : IVec S32x128 32) (v29 : IVec S32x128 32), Vec F S1x128x128 .i8) → sProp 𝕄, iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ iprop((arg8.view.loc (c : Thread nD τ) ↦[arg8.view.set]{fullShare} harg8.unread lhs) ∗ (arg10.view.loc (c : Thread nD τ) ↦[arg10.view.set]{fullShare} harg10.unread ls) ∗ (arg11.view.loc (c : Thread nD τ) ↦[arg11.view.set]{fullShare} harg11.unread sz))
        ∗ (iprop((arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg8.view.loc (c : Thread nD τ) ↦[arg8.view.set]{fullShare} harg8.unread lhs) ∗ (arg10.view.loc (c : Thread nD τ) ↦[arg10.view.set]{fullShare} harg10.unread ls) ∗ (arg11.view.loc (c : Thread nD τ) ↦[arg11.view.set]{fullShare} harg11.unread sz) ∗ iprop(emp))
          -∗ Kc (head arg2 harg2 arg3 harg3 arg4 harg4 x1 x2 x3))) ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11) Kc := by
    intro Kc
    iintro ⟨H2, H3, H4, ⟨H8, H10, H11⟩, Hk⟩
    iapply (tabRunB c i arg1 harg1 arg2 harg2 arg3 harg3 arg4 harg4 arg5 harg5 arg6 harg6 arg7 harg7 arg8 harg8 arg9 harg9 arg10 harg10 arg11 harg11 hc0 x1 x2 x3 E Kc)
    isplitl [H2]; · iexact H2
    isplitl [H3]; · iexact H3
    isplitl [H4]; · iexact H4
    iintro ⟨H2, H3, H4⟩
    iapply Hk
    isplitl [H2]; · iexact H2
    isplitl [H3]; · iexact H3
    isplitl [H4]; · iexact H4
    isplitl [H8]; · iexact H8
    isplitl [H10]; · iexact H10
    isplitl [H11]; · iexact H11
    iempintro
  iintro ⟨H2, H3, H4, H5, H8, H10, H11, Hk⟩
  unfold owns
  icases H2 with ⟨%f2, %hf2, H2⟩
  icases H3 with ⟨%f3, %hf3, H3⟩
  icases H4 with ⟨%f4, %hf4, H4⟩
  icases H8 with ⟨%f8, %hf8, H8⟩
  icases H10 with ⟨%f10, %hf10, H10⟩
  icases H11 with ⟨%f11, %hf11, H11⟩
  obtain rfl := harg2.eq_unread hf2
  obtain rfl := harg3.eq_unread hf3
  obtain rfl := harg4.eq_unread hf4
  obtain rfl := harg8.eq_unread hf8
  obtain rfl := harg10.eq_unread hf10
  obtain rfl := harg11.eq_unread hf11
  iapply ((mainRun c i arg1 harg1 arg2 harg2 arg3 harg3 arg4 harg4 arg5 harg5 arg6 harg6 arg7 harg7 arg8 harg8 arg9 harg9 arg10 harg10 arg11 harg11 x1 x2 x3 lhs ls sz).2 E _ _ hcut K)
  isplitl [H2]; · iexact H2
  isplitl [H3]; · iexact H3
  isplitl [H4]; · iexact H4
  isplitl [H5]; · iexact H5
  isplitl [H8 H10 H11]
  · isplitl [H8]; · iexact H8
    isplitl [H10]; · iexact H10
    iexact H11
  iintro ⟨H2, H3, H4, ⟨%f5, H5⟩, H8, H10, H11, He⟩
  rw [main_pieces, writes_eq_unread arg5 harg5 _ (y_cover x1 x2 x3 lhs ls sz)]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H10]
  · iexists _; isplitr; · ipureintro; exact harg10.read_unread _
    iexact H10
  iexists _; isplitr; · ipureintro; exact harg11.read_unread _
  iexact H11

end

end Cert.KernelIdeal.Hand

end
-- ==== Proof.IdealFrame.lean ====
/- The frame of the kernel: the proof data name what every point leaves (the tables of the activations' block in the
   scratch, the output tile of the point's blocks, the codes and the scales), the body obligation is `bodyA`/`bodyB`, and
   the launch theorem gives the arrays at the end. -/
module

public import proofs.«01_k».proof.Proof.Body
public import Idealize.ShloMosaic.Lib.Pipeline.TableIdle
public import Idealize.ShloMosaic.Lib.WordCmp
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's branch is taken at the first point only. -/
theorem condA_iff : ∀ t : Fin cfg0.N, condA (grid0.coords t) ↔ t.val = 0 := fun t => by
  have ht : t.val < 48 := Nat.lt_of_lt_of_eq t.isLt N_0
  have e0 : (grid0.coords t 0).val = t.val / 1 % 48 := Pipeline.Grid.coords_val t 0 (by decide) rfl
  simp only [condA, e0]
  have h : t.val = 0 ↔ t.val % 48 = 0 := by omega
  rw [h]
  word_cmp

abbrev ms0_0 (t : Fin cfg0.N) : Memref sig .tc .vmem S144x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1x48 .f32 := win0_6.stage (cfg0.slots t 6)
abbrev hs0_6 (t : Fin cfg0.N) : (ms0_6 t).IsWhole := hstage0_6 ((cfg0.slots t 6).cast nbuf0_6)
abbrev scM0_0 : Memref sig .tc .vmem S24x24x960 .bf16 := Memref.whole cc0_scratch0
abbrev scM0_1 : Memref sig .tc .vmem S576x128 .f32 := Memref.whole cc0_scratch1
abbrev scM0_2 : Memref sig .tc .vmem S576x128 .f32 := Memref.whole cc0_scratch2
abbrev scM0_3 : Memref sig .tc .vmem S576x128 .f32 := Memref.whole cc0_scratch3

/-- The launch's invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The first grid point. -/
abbrev pt0 : Fin cfg0.N := ⟨0, by rw [show cfg0.N = 48 from N_0]; decide⟩

/-- The activations' block. -/
abbrev xB (c : Dev nD) : Vec F S144x128 .bf16 := iblk m c 0 pt0

/-- The invariant: after a point the scratch holds the tables of the activations' block. -/
def PhiS (c : Dev nD) : (n : ℕ) → n ≤ cfg0.N → sProp 𝕄
  | 0, _ => Pipeline.ΦA spec0 c
  | n + 1, _ => iprop(iprop(owns (c : Thread nD τ) scM0_0 fullShare (lhsV (xB m c)) ∗ (∃ d, owns (c : Thread nD τ) scM0_1 fullShare d)
      ∗ owns (c : Thread nD τ) scM0_2 fullShare (lsV (xB m c)) ∗ owns (c : Thread nD τ) scM0_3 fullShare (szV (xB m c))) ∗ (∃ r, prngReg c r))

/-- Before the first point the invariant says nothing of the scratch. -/
theorem PhiS_zero (c : Dev nD) (n : ℕ) (h : n ≤ cfg0.N) (hz : n = 0) : PhiS m c n h = Pipeline.ΦA spec0 c := by
  subst hz; rfl
/-- After a point the scratch holds the tables of the whole activations. -/
theorem PhiS_succ (c : Dev nD) (n : ℕ) (hn : n + 1 ≤ cfg0.N) :
    PhiS m c (n + 1) hn = iprop(iprop(owns (c : Thread nD τ) scM0_0 fullShare (lhsV (xB m c)) ∗ (∃ d, owns (c : Thread nD τ) scM0_1 fullShare d)
      ∗ owns (c : Thread nD τ) scM0_2 fullShare (lsV (xB m c)) ∗ owns (c : Thread nD τ) scM0_3 fullShare (szV (xB m c))) ∗ (∃ r, prngReg c r)) := rfl
/-- At every point but the first the scratch holds the tables of the whole activations. -/
theorem PhiS_pos (c : Dev nD) (n : ℕ) (h : n ≤ cfg0.N) (hz : n ≠ 0) :
    PhiS m c n h = iprop(iprop(owns (c : Thread nD τ) scM0_0 fullShare (lhsV (xB m c)) ∗ (∃ d, owns (c : Thread nD τ) scM0_1 fullShare d)
      ∗ owns (c : Thread nD τ) scM0_2 fullShare (lsV (xB m c)) ∗ owns (c : Thread nD τ) scM0_3 fullShare (szV (xB m c))) ∗ (∃ r, prngReg c r)) := by
  cases n with
  | zero => exact absurd rfl hz
  | succ n => rfl

/-- The proof data: what each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yV (iblk m c 1 t) (iblk m c 2 t) (iblk m c 3 t) (lhsV (xB m c)) (lsV (xB m c)) (szV (xB m c))
    | ⟨5, _⟩ => codesV (xB m c)
    | ⟨6, _⟩ => scalesV (xB m c)
  Φ t := PhiS m c t.val (Nat.le_of_lt_succ t.isLt)
  q _ := fullShare
  owed _ := 0

/-- The array behind a window is the one the call is entered with. -/
theorem A_eq (c : Dev nD) (w : Fin cfg0.W) : (dats m 0 c).A w = V m c (Pipeline.arrRef spec0 w) := by
  dsimp only [dats]

/-- The invariant that a point is entered with. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- A grid point leaves the activations it holds as it found them. -/
theorem after0_0 (c : Dev nD) (t : Fin cfg0.N) : (dats m 0 c).after 0 t = iblk m c 0 t := by dsimp only [dats]
/-- A grid point leaves the weight planes it holds as it found them. -/
theorem after0_1 (c : Dev nD) (t : Fin cfg0.N) : (dats m 0 c).after 1 t = iblk m c 1 t := by dsimp only [dats]
/-- A grid point leaves the weight scales it holds as it found them. -/
theorem after0_2 (c : Dev nD) (t : Fin cfg0.N) : (dats m 0 c).after 2 t = iblk m c 2 t := by dsimp only [dats]
/-- A grid point leaves the zero points it holds as it found them. -/
theorem after0_3 (c : Dev nD) (t : Fin cfg0.N) : (dats m 0 c).after 3 t = iblk m c 3 t := by dsimp only [dats]
/-- A grid point leaves its block of y, computed from its weights and the tables. -/
theorem after0_4 (c : Dev nD) (t : Fin cfg0.N) : (dats m 0 c).after 4 t = yV (iblk m c 1 t) (iblk m c 2 t) (iblk m c 3 t) (lhsV (xB m c)) (lsV (xB m c)) (szV (xB m c)) := by dsimp only [dats]
/-- Every grid point leaves the codes of the whole activations. -/
theorem after0_5 (c : Dev nD) (t : Fin cfg0.N) : (dats m 0 c).after 5 t = codesV (xB m c) := by dsimp only [dats]
/-- Every grid point leaves the scales of the whole activations. -/
theorem after0_6 (c : Dev nD) (t : Fin cfg0.N) : (dats m 0 c).after 6 t = scalesV (xB m c) := by dsimp only [dats]
/-- A grid point finds its block of the activations. -/
theorem before0_0 (c : Dev nD) (t : Fin cfg0.N) (d) : (dats m 0 c).before 0 t d = iblk m c 0 t :=
  before0_0_of m (dats m 0 c) (A_eq m c 0) (after0_0 m c) t d
/-- A grid point finds its block of the weight planes. -/
theorem before0_1 (c : Dev nD) (t : Fin cfg0.N) (d) : (dats m 0 c).before 1 t d = iblk m c 1 t :=
  before0_1_of m (dats m 0 c) (A_eq m c 1) (after0_1 m c) t d
/-- A grid point finds its block of the weight scales. -/
theorem before0_2 (c : Dev nD) (t : Fin cfg0.N) (d) : (dats m 0 c).before 2 t d = iblk m c 2 t :=
  before0_2_of m (dats m 0 c) (A_eq m c 2) (after0_2 m c) t d
/-- A grid point finds its block of the zero points. -/
theorem before0_3 (c : Dev nD) (t : Fin cfg0.N) (d) : (dats m 0 c).before 3 t d = iblk m c 3 t :=
  before0_3_of m (dats m 0 c) (A_eq m c 3) (after0_3 m c) t d

/-- The block of codes is fetched at no point after the first. -/
theorem fresh0_5 : ∀ t : Fin cfg0.N, t.val ≠ 0 → cfg0.fresh 5 t.val = false := by decide +kernel
/-- The block of codes is written at the first point only. -/
theorem idle0_5 : ∀ t : Fin cfg0.N, cfg0.idle 5 (grid0.coords t) = decide (t.val ≠ 0) := by decide +kernel
/-- After the first point the buffer of window 5 holds what the first point left. -/
theorem before0_5 (c : Dev nD) (t : Fin cfg0.N) (ht : t.val ≠ 0) (d) : (dats m 0 c).before 5 t d = codesV (xB m c) := by
  rw [(dats m 0 c).before_out_traj 5 rfl (fun _ _ => rfl) (fun t _ _ _ => by rw [after0_5, after0_5]) t.val t rfl d, fresh0_5 t ht, if_neg (by decide), after0_5]
/-- What a later point leaves of window 5: what it found. -/
theorem leaves0_5 (c : Dev nD) (t : Fin cfg0.N) (ht : t.val ≠ 0) :
    owns (c : Thread nD τ) (ms0_5 t) fullShare (codesV (xB m c)) ⊢ ((dats m 0 c).leavesExact 5 t : sProp 𝕄) := by
  unfold Dat.leavesExact
  rw [idle0_5 t, decide_eq_true ht]
  dsimp only
  cases h : (cfg0.win 5).flush t
  · dsimp only
    iintro H
    iexists (dats m 0 c).after 5 t
    rw [before0_5 m c t ht]
    iexact H
  · dsimp only
    rw [after0_5]
/-- The first point leaves the codes. -/
theorem leaves0_5_first (c : Dev nD) (t : Fin cfg0.N) (ht : t.val = 0) :
    ((dats m 0 c).leavesExact 5 t : sProp 𝕄) = owns (c : Thread nD τ) (ms0_5 t) fullShare (codesV (xB m c)) := by
  unfold Dat.leavesExact
  rw [idle0_5 t, decide_eq_false (by rw [ht]; decide)]
  dsimp only
  rw [after0_5]

/-- The block of scales is fetched at no point after the first. -/
theorem fresh0_6 : ∀ t : Fin cfg0.N, t.val ≠ 0 → cfg0.fresh 6 t.val = false := by decide +kernel
/-- The block of scales is written at the first point only. -/
theorem idle0_6 : ∀ t : Fin cfg0.N, cfg0.idle 6 (grid0.coords t) = decide (t.val ≠ 0) := by decide +kernel
/-- After the first point the buffer of window 6 holds what the first point left. -/
theorem before0_6 (c : Dev nD) (t : Fin cfg0.N) (ht : t.val ≠ 0) (d) : (dats m 0 c).before 6 t d = scalesV (xB m c) := by
  rw [(dats m 0 c).before_out_traj 6 rfl (fun _ _ => rfl) (fun t _ _ _ => by rw [after0_6, after0_6]) t.val t rfl d, fresh0_6 t ht, if_neg (by decide), after0_6]
/-- What a later point leaves of window 6: what it found. -/
theorem leaves0_6 (c : Dev nD) (t : Fin cfg0.N) (ht : t.val ≠ 0) :
    owns (c : Thread nD τ) (ms0_6 t) fullShare (scalesV (xB m c)) ⊢ ((dats m 0 c).leavesExact 6 t : sProp 𝕄) := by
  unfold Dat.leavesExact
  rw [idle0_6 t, decide_eq_true ht]
  dsimp only
  cases h : (cfg0.win 6).flush t
  · dsimp only
    iintro H
    iexists (dats m 0 c).after 6 t
    rw [before0_6 m c t ht]
    iexact H
  · dsimp only
    rw [after0_6]
/-- The first point leaves the scales. -/
theorem leaves0_6_first (c : Dev nD) (t : Fin cfg0.N) (ht : t.val = 0) :
    ((dats m 0 c).leavesExact 6 t : sProp 𝕄) = owns (c : Thread nD τ) (ms0_6 t) fullShare (scalesV (xB m c)) := by
  unfold Dat.leavesExact
  rw [idle0_6 t, decide_eq_false (by rw [ht]; decide)]
  dsimp only
  rw [after0_6]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body of a grid point takes what it is given to what it has to leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc]
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  by_cases hz : t.val = 0
  · rw [PhiS_zero m c _ _ hz, PhiA0_eq, leaves0_5_first m c t hz, leaves0_6_first m c t hz]
    obtain rfl : t = pt0 := Fin.ext hz
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (bodyA c (grid0.coords pt0) _ _ _ _ _ _ _ _ _ _ _ _ _ _ _ _ _ _ _ _ _ _ (iblk m c 0 pt0) (iblk m c 1 pt0) (iblk m c 2 pt0) (iblk m c 3 pt0) ((condA_iff pt0).mpr rfl) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ _ hz]
    simp only [before0_5 m c t hz, before0_6 m c t hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (bodyB c (grid0.coords t) _ _ _ _ _ _ _ _ _ _ _ _ _ _ _ _ _ _ _ _ _ _ (iblk m c 1 t) (iblk m c 2 t) (iblk m c 3 t) (fun h => hz ((condA_iff t).mp h)) _ _ _ Set.univ _)
    isplitl [H1]; · iexact H1
    isplitl [H2]; · iexact H2
    isplitl [H3]; · iexact H3
    isplitl [H4]; · iexists _; iexact H4
    isplitl [HS0]; · iexact HS0
    isplitl [HS2]; · iexact HS2
    isplitl [HS3]; · iexact HS3
    iintro ⟨H1, H2, H3, H4, HS0, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves0_5 m c t hz); iexact H5
    iapply (leaves0_6 m c t hz); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Every grid point keeps the invariant. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexact HS1
    isplitl [HS2]; · iexists _; iexact HS2
    iexists _; iexact HS3
  iexact Hg

/-- The invariant at the end gives the scratch back. -/
theorem hout (c : Dev nD) : (dats m 0 c).Φ (Fin.last cfg0.N) ⊢ Pipeline.ΦA spec0 c :=
  Phi_out m c _ (by rw [Fin.val_last]; have : cfg0.N = 48 := N_0; omega)

set_option backward.isDefEq.respectTransparency.types false in
/-- The launch: every array at the end is what the proof data give, and every semaphore is at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The kernel's idealization ends, each array as the windows leave it. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Spec.lean ====
/- What is computed, in the problem's own words: the subset sums of a scale group, its scale and its codes, over the
   extended reals. -/
module

public import Idealize.ShloMosaic.Lib.Pointwise
public import Idealize.ShloMosaic.PureOps.Ideal.Laws

@[expose] public section

noncomputable section

namespace Cert.Spec

open Idealize.ShloMosaic

/-- A value kept where bit `i` of `e` is set. -/
def bitv (e i : Nat) (v : EReal) : EReal := if e.testBit i then v else 0
/-- The subset sum of a quad of activations the bits of `e` choose. -/
def tval (a : Fin 4 → EReal) (e : Nat) : EReal := bitv e 0 (a 0) + bitv e 1 (a 1) + bitv e 2 (a 2) + bitv e 3 (a 3)
/-- The subset sums of a scale group of 32 quads: column `16 * quad + entry`. -/
def gT (a : Fin 32 → Fin 4 → EReal) (c : Fin 512) : EReal := tval (a ⟨c.val / 16, by omega⟩) (c.val % 16)
/-- The largest absolute value of a group's subset sums. -/
def gMax (a : Fin 32 → Fin 4 → EReal) : EReal :=
  Finset.univ.fold max (Ideal.ofBits FTy.f32 0xFF800000#32) fun c : Fin 512 => FloatOps.absf (F := Ideal) (φ := .f32) (gT a c)
/-- The scale of a group. -/
def gScale (a : Fin 32 → Fin 4 → EReal) : EReal := if gMax a = 0 then 1 else Ideal.div (gMax a) (Ideal.ofBits FTy.f32 0x42FE0000#32)
/-- The code of a subset sum, as an extended real. -/
def gCode (a : Fin 32 → Fin 4 → EReal) (c : Fin 512) : EReal :=
  min (Ideal.ofBits FTy.f32 0x42FE0000#32) (max (Ideal.ofBits FTy.f32 0xC2FE0000#32)
    (Ideal.liftRound Ideal.roundHalfEven (Ideal.div (gT a c) (gScale a))))

/-- The word of 127. -/
theorem ofBits_127 : Ideal.ofBits FTy.f32 0x42FE0000#32 = ((127 : ℝ) : EReal) := by
  simp [Ideal.ofBits, Ideal.ieee, -EReal.coe_mul]; norm_num
/-- The word of -127. -/
theorem ofBits_neg127 : Ideal.ofBits FTy.f32 0xC2FE0000#32 = ((-127 : ℝ) : EReal) := by
  simp [Ideal.ofBits, Ideal.ieee, -EReal.coe_mul, -EReal.coe_neg]; norm_num

/-- A code is an integer between -127 and 127, whatever the activations. -/
theorem gCode_int (a : Fin 32 → Fin 4 → EReal) (c : Fin 512) : ∃ n : ℤ, gCode a c = ((n : ℝ) : EReal) ∧ -127 ≤ n ∧ n ≤ 127 := by
  unfold gCode
  rw [ofBits_127, ofBits_neg127]
  generalize Ideal.div (gT a c) (gScale a) = v
  induction v with
  | bot => exact ⟨-127, by rw [Ideal.liftRound_bot, max_eq_left bot_le, min_eq_right (EReal.coe_le_coe_iff.2 (by norm_num))]; norm_num, by omega, by omega⟩
  | top => exact ⟨127, by rw [Ideal.liftRound_top, max_eq_right le_top, min_eq_left le_top]; norm_num, by omega, by omega⟩
  | coe v =>
    refine ⟨min 127 (max (-127) (Ideal.roundHalfEven v)), ?_, by omega, by omega⟩
    rw [Ideal.liftRound_coe, ← EReal.coe_strictMono.monotone.map_max, ← EReal.coe_strictMono.monotone.map_min]
    congr 1; push_cast; rfl

/-- An integer inside the bounds is converted to itself. -/
theorem toIntClamped_int (lo hi n : ℤ) (h0 : lo ≤ n) (h1 : n ≤ hi) : Ideal.toIntClamped lo hi ((n : ℝ) : EReal) = n := by
  show max lo (min hi (if (0 : ℝ) ≤ (n : ℝ) then ⌊(n : ℝ)⌋ else ⌈(n : ℝ)⌉)) = n
  simp; omega

/-- The code of a subset sum. -/
def gInt (a : Fin 32 → Fin 4 → EReal) (c : Fin 512) : ℤ := (Ideal.fptosi 8 (gCode a c)).toInt

/-- A code is an integer from -127 to 127, whatever the activations. -/
theorem gCode_eq (a : Fin 32 → Fin 4 → EReal) (c : Fin 512) : gCode a c = ((gInt a c : ℝ) : EReal) ∧ -127 ≤ gInt a c ∧ gInt a c ≤ 127 := by
  obtain ⟨n, hn, h0, h1⟩ := gCode_int a c
  have : gInt a c = n := by
    unfold gInt; rw [hn]
    show (BitVec.ofInt 8 (Ideal.toIntClamped _ _ _)).toInt = n
    rw [toIntClamped_int _ _ _ (by norm_num; omega) (by norm_num; omega), BitVec.toInt_ofInt]
    simp [Int.bmod]; omega
  rw [this]; exact ⟨hn, h0, h1⟩

/-- Rounding a code to 32 bits and dropping the high ones is rounding it to 8. -/
theorem trunci_code (a : Fin 32 → Fin 4 → EReal) (c : Fin 512) :
    (Ideal.fptosi 32 (gCode a c)).setWidth 8 = Ideal.fptosi 8 (gCode a c) := by
  obtain ⟨n, hn, h0, h1⟩ := gCode_int a c
  rw [hn]
  show (BitVec.ofInt 32 (Ideal.toIntClamped _ _ _)).setWidth 8 = BitVec.ofInt 8 (Ideal.toIntClamped _ _ _)
  rw [toIntClamped_int _ _ _ (by norm_num; omega) (by norm_num; omega), toIntClamped_int _ _ _ (by norm_num; omega) (by norm_num; omega)]
  interval_cases n <;> rfl

/-- The code of entry `e` of quad `Q` of a token, from its activations by scale group. -/
def code (a : Fin 48 → Fin 32 → Fin 4 → EReal) (Q : Fin 1536) (e : Fin 16) : ℤ :=
  gInt (a ⟨Q.val / 32, by omega⟩) ⟨16 * (Q.val % 32) + e.val, by omega⟩

/-- A code is from -127 to 127. -/
theorem code_bound (a : Fin 48 → Fin 32 → Fin 4 → EReal) (Q : Fin 1536) (e : Fin 16) : -127 ≤ code a Q e ∧ code a Q e ≤ 127 :=
  (gCode_eq _ _).2

/-- The low nibble of a byte. -/
def lo (b : BitVec 8) : Fin 16 := ⟨b.toNat % 16, by omega⟩
/-- The high nibble of a byte. -/
def hi (b : BitVec 8) : Fin 16 := ⟨b.toNat / 16, by have := b.isLt; omega⟩

/-- What one byte of one plane looks up: its two quads' codes. -/
def look (cd : Fin 1536 → Fin 16 → ℤ) (j : Fin 768) (b : BitVec 8) : ℤ := cd ⟨2 * j.val, by omega⟩ (lo b) + cd ⟨2 * j.val + 1, by omega⟩ (hi b)
/-- The table sum of one weight group: four bytes of each of the four planes, plane `p` weighing `2 ^ p`. -/
def dotG (cd : Fin 1536 → Fin 16 → ℤ) (w : Fin 4 → Fin 768 → BitVec 8) (g : Fin 192) : ℤ :=
  ∑ p : Fin 4, (∑ b : Fin 4, look cd ⟨4 * g.val + b.val, by omega⟩ (w p ⟨4 * g.val + b.val, by omega⟩)) * 2 ^ p.val
/-- The sum of the full subsets of one weight group. -/
def sumG (cd : Fin 1536 → Fin 16 → ℤ) (g : Fin 192) : ℤ := ∑ k : Fin 8, cd ⟨8 * g.val + k.val, by omega⟩ 15
/-- One output of one token. -/
def outY (a : Fin 48 → Fin 32 → Fin 4 → EReal) (w : Fin 4 → Fin 768 → BitVec 8) (ws wz : Fin 192 → EReal) : EReal :=
  ∑ g : Fin 192, ws g * gScale (a ⟨g.val / 4, by omega⟩) * (((dotG (code a) w g : ℝ) : EReal) - wz g * ((sumG (code a) g : ℝ) : EReal))

end Cert.Spec

end
-- ==== Proof.Codes.lean ====
/- The kernel's tables of subset sums, scales and codes, at an index: they are the problem's. -/
module
public import proofs.«01_k».proof.Proof.Tables
public import proofs.«01_k».proof.Proof.Spec
public import Idealize.ShloMosaic.Lib.Pointwise
@[expose] public section
set_option maxRecDepth 16384
noncomputable section
namespace Cert.KernelIdeal.Hand
open Cert.KernelIdeal.Gen Cert.Spec
open Idealize.ShloMosaic Idealize.ShloMosaic.TcCoe

/-- The quad of a column of the tables, in the first row. -/
theorem col5 : ∀ c : Fin 512, k0_pay5 (ix2 (0 : Fin 128) c : S128x512.Idx) = BitVec.ofNat 32 (c.val / 16) := by decide +kernel
/-- The entry of a column of the tables, in the first row. -/
theorem col6 : ∀ c : Fin 512, k0_pay6 (ix2 (0 : Fin 128) c : S128x512.Idx) = BitVec.ofNat 32 (c.val % 16) := by decide +kernel
/-- The quad of a column of the tables. -/
theorem pay5_apply (l : Fin 128) (c : Fin 512) : k0_pay5 (ix2 l c : S128x512.Idx) = BitVec.ofNat 32 (c.val / 16) := col5 c
/-- The entry of a column of the tables. -/
theorem pay6_apply (l : Fin 128) (c : Fin 512) : k0_pay6 (ix2 l c : S128x512.Idx) = BitVec.ofNat 32 (c.val % 16) := col6 c

/-- The test of a bit of an entry, on words. -/
theorem bitsel : ∀ (e : Fin 16) (i : Fin 4), IntOp.cmpi CmpIPredicate.eq (IntOp.andi (IntOp.shrsi ArithUnit.vector (BitVec.ofNat 32 e.val) (BitVec.ofNat 32 i.val)) 1#32) 1#32 = BitVec.ofBool (e.val.testBit i.val) := by decide +kernel
/-- The test that a lane is an activation of a quad, on words. -/
theorem rowsel : ∀ (l : Fin 128) (q : Fin 32) (i : Fin 4), IntOp.cmpi CmpIPredicate.eq (BitVec.ofNat 32 l.val) (IntOp.addi (IntOp.muli 4#32 (BitVec.ofNat 32 q.val)) (BitVec.ofNat 32 i.val)) = BitVec.ofBool (decide (l.val = 4 * q.val + i.val)) := by decide +kernel

/-- A sum over the lanes with the selection of one activation of a quad is that activation, if its bit of the entry is set. -/
theorem sum_sel (f : Fin 128 → EReal) (q : Fin 32) (e : Fin 16) (i : Fin 4) (w : BitVec 32) (hw : w = BitVec.ofNat 32 i.val) :
    ∑ l : Fin 128, Scalar.select (IntOp.andi
      (IntOp.cmpi CmpIPredicate.eq (BitVec.ofNat 32 l.val) (IntOp.addi (IntOp.muli 4#32 (BitVec.ofNat 32 q.val)) w))
      (IntOp.cmpi CmpIPredicate.eq (IntOp.andi (IntOp.shrsi ArithUnit.vector (BitVec.ofNat 32 e.val) w) 1#32) 1#32)) (f l) 0
     = bitv e.val i.val (f ⟨4 * q.val + i.val, by omega⟩) := by
  subst hw
  simp only [rowsel, bitsel]
  rw [Finset.sum_eq_single (⟨4 * q.val + i.val, by omega⟩ : Fin 128)]
  · cases h : e.val.testBit i.val <;> simp [bitv, h, Scalar.select, IntOp.andi]
  · intro b _ hb
    have : decide (b.val = 4 * q.val + i.val) = false := by
      rw [decide_eq_false_iff_not]; intro h; exact hb (Fin.ext h)
    rw [this]; simp [Scalar.select, IntOp.andi]
  · simp

set_option maxHeartbeats 1000000 in
/-- The table product at a row, quad and entry is the subset sum of the quad's activations. -/
theorem tabT_apply (xb : FVec Ideal S144x128 .bf16) (r : Fin 144) (q : Fin 32) (e : Fin 16) :
    tabT xb (ix2 r (⟨16 * q.val + e.val, by omega⟩ : Fin 512) : S144x512.Idx) = tval (fun i => xb (ix2 r (⟨4 * q.val + i.val, by omega⟩ : Fin 128))) e.val := by
  unfold tabT
  pointwise [k0_pay10, k0_pay7, k0_pay8, k0_pay9, k0_pay4]
  have h5 : ∀ x : Fin 128, k0_pay5 (ix2 x (⟨16 * q.val + e.val, by omega⟩ : Fin 512) : S128x512.Idx) = BitVec.ofNat 32 q.val := fun x => by
    rw [pay5_apply]; congr 1; simp only; omega
  have h6 : ∀ x : Fin 128, k0_pay6 (ix2 x (⟨16 * q.val + e.val, by omega⟩ : Fin 512) : S128x512.Idx) = BitVec.ofNat 32 e.val := fun x => by
    rw [pay6_apply]; congr 1; simp only; omega
  simp only [h5, h6]
  rw [sum_sel (fun l => xb (ix2 r l)) q e 0 0#32 rfl, sum_sel (fun l => xb (ix2 r l)) q e 1 1#32 rfl, sum_sel (fun l => xb (ix2 r l)) q e 2 2#32 rfl, sum_sel (fun l => xb (ix2 r l)) q e 3 3#32 rfl]
  rfl

/-- The activations of a group of the kernel's block, by quads. -/
def quads (xb : FVec Ideal S144x128 .bf16) (r : Fin 144) : Fin 32 → Fin 4 → EReal := fun q i => xb (ix2 r (⟨4 * q.val + i.val, by omega⟩ : Fin 128))

/-- The kernel's subset sums. -/
theorem tabT_eq (xb : FVec Ideal S144x128 .bf16) (r : Fin 144) (c : Fin 512) : tabT xb (ix2 r c : S144x512.Idx) = gT (quads xb r) c := by
  have h := tabT_apply xb r ⟨c.val / 16, by omega⟩ ⟨c.val % 16, by omega⟩
  have hc : (⟨16 * (c.val / 16) + c.val % 16, by omega⟩ : Fin 512) = c := Fin.ext (by simp only; omega)
  simp only [hc] at h
  exact h

/-- The kernel's scales. -/
theorem tabScale_eq (xb : FVec Ideal S144x128 .bf16) (r : Fin 144) (z : Fin 1) : tabScale xb (ix2 r z : S144x1.Idx) = gScale (quads xb r) := by
  obtain rfl : z = 0 := Subsingleton.elim _ _
  unfold tabScale k0_pay11
  change (select _ _ _) _ = _
  have : k0_pay10 (k0_pay4 xb) rowsT k0_pay5 k0_pay6 (k0_pay7 (k0_pay4 xb) rowsT k0_pay5 k0_pay6 4#32) (k0_pay8 rowsT k0_pay5) (k0_pay9 k0_pay6) = tabT xb := rfl
  rw [this]
  pointwise []
  simp only [tabT_eq]
  rfl

/-- The kernel's codes, as floats. -/
theorem tabCode_eq (xb : FVec Ideal S144x128 .bf16) (r : Fin 144) (c : Fin 512) : tabCode xb (ix2 r c : S144x512.Idx) = gCode (quads xb r) c := by
  pointwise [tabCode]
  rw [tabT_eq, tabScale_eq]; rfl

/-- The kernel's codes. -/
theorem tabCodeI_eq (xb : FVec Ideal S144x128 .bf16) (r : Fin 144) (c : Fin 512) : tabCodeI xb (ix2 r c : S144x512.Idx) = Ideal.fptosi 8 (gCode (quads xb r) c) := by
  rw [← tabCode_eq]; rfl

/-- The test of the diagonal, on words. -/
theorem diag : ∀ (a : Fin 48) (b : Fin 48), IntOp.cmpi CmpIPredicate.eq (BitVec.ofNat 32 a.val) (BitVec.ofNat 32 b.val) = BitVec.ofBool (decide (a = b)) := by decide +kernel

/-- The kernel's scales of a token, along the lanes. -/
theorem scaleRow_eq (xb : FVec Ideal S144x128 .bf16) (t : Fin 3) (j : Fin 48) (y z : Fin 1) :
    scaleRow xb t (ix3 y z j : S1x1x48.Idx) = gScale (quads xb ⟨48 * t.val + j.val, by omega⟩) := by
  obtain rfl : y = 0 := Subsingleton.elim _ _
  obtain rfl : z = 0 := Subsingleton.elim _ _
  pointwise [scaleRow, tabScaleL]
  simp only [diag]
  rw [Finset.sum_eq_single j]
  · rw [tabScale_eq]; simp [Scalar.select]
  · intro b _ hb; simp [Scalar.select, hb]
  · simp

end Cert.KernelIdeal.Hand
end
-- ==== Proof.Rows.lean ====
/- The tables spread over rows of a weight group each, at an index. -/
module

public import proofs.«01_k».proof.Proof.Body
public import proofs.«01_k».proof.Proof.Codes

@[expose] public section

set_option maxRecDepth 16384

noncomputable section

namespace Cert.KernelIdeal.Hand

open Cert.KernelIdeal.Gen Cert.Spec
open Idealize.ShloMosaic Idealize.ShloMosaic.TcCoe

variable (x : Vec Ideal S144x128 .bf16)

/-- Row `4 * r + q` of the code rows holds quarter `q` of group `r`. -/
theorem csV_eq (y : S576x128.Idx) : csV x y = gCode (quads x ⟨(y 0).val / 4, by have : (y 0).val < 576 := (y 0).isLt; omega⟩)
    ⟨128 * ((y 0).val % 4) + (y 1).val, by have : (y 1).val < 128 := (y 1).isLt; omega⟩ := by
  refine View.canon_apply_of_pieces (Val := Elt Ideal) (fun y : S576x128.Idx => gCode (quads x ⟨(y 0).val / 4, by have : (y 0).val < 576 := (y 0).isLt; omega⟩)
    ⟨128 * ((y 0).val % 4) + (y 1).val, by have : (y 1).val < 128 := (y 1).isLt; omega⟩) (csPieces x) ?_ y ?_
  · intro p hp j
    obtain ⟨q, _, rfl⟩ := List.mem_map.1 hp
    have h0 : (j 0).val < 144 := (j 0).isLt
    have h1 : (j 1).val < 128 := (j 1).isLt
    have hq := q.isLt
    have e : quarter x q j = tabCode (F := Ideal) x (ix2 (⟨(j 0).val, h0⟩ : Fin 144) (⟨128 * q.val + (j 1).val, by omega⟩ : Fin 512)) := by
      pointwise [quarter]
    refine e.trans ?_
    rw [tabCode_eq]
    refine congrArg₂ (fun r c => gCode (quads x r) c) (Fin.ext ?_) (Fin.ext ?_)
    · show (j 0).val = (q.val + 4 * (j 0).val) / 4
      omega
    · show 128 * q.val + (j 1).val = 128 * ((q.val + 4 * (j 0).val) % 4) + (0 + 1 * (j 1).val)
      omega
  · have hq : (y 0).val % 4 < 4 := Nat.mod_lt _ (by decide)
    refine ⟨_, List.mem_map_of_mem (a := (⟨(y 0).val % 4, hq⟩ : Fin 4)) ?_, quarter_mem y ⟨(y 0).val % 4, hq⟩ rfl⟩
    generalize (⟨(y 0).val % 4, hq⟩ : Fin 4) = q
    revert q; decide

/-- The scales over the lanes, as stored. -/
def lsQ : FVec Ideal S144x128 .f32 := shapeCast S144x128 (tabScaleL (F := Ideal) x) shapeCasts_S144x128_S144x128
/-- The four strided stores of the spread scales. -/
theorem lsPieces_eq : lsPieces (F := Ideal) x = [(3 : Fin 4), 2, 1, 0].map fun q => ⟨{ off := ![q.val, 0], size := S144x128.size, stride := ![4, 1], inb := inb_quarter q, stride_pos := by decide }, lsQ x⟩ := rfl

/-- The scale of a row of a weight group. -/
def lsG (y : S576x128.Idx) : EReal := gScale (quads x ⟨(y 0).val / 4, by have : (y 0).val < 576 := (y 0).isLt; omega⟩)

/-- The scales that each strided store writes. -/
theorem lsQ_eq (j : S144x128.Idx) : lsQ x j = gScale (quads x (⟨(j 0).val, (j 0).isLt⟩ : Fin 144)) := by
  rw [← tabScale_eq x (⟨(j 0).val, (j 0).isLt⟩ : Fin 144) 0]
  pointwise [lsQ, tabScaleL]

/-- Four strided stores of a row's scale fill the table with the scale of each row's group. -/
theorem spread_eq (Q : Vec Ideal S144x128 .f32) (hQ : ∀ j : S144x128.Idx, Q j = gScale (quads x (⟨(j 0).val, (j 0).isLt⟩ : Fin 144)))
    (L : List (View.Piece (Elt Ideal) S576x128 .f32)) (hL : L = [(3 : Fin 4), 2, 1, 0].map fun q => ⟨{ off := ![q.val, 0], size := S144x128.size, stride := ![4, 1], inb := inb_quarter q, stride_pos := by decide }, Q⟩)
    (y : S576x128.Idx) (hc : ∃ p ∈ L, y ∈ p.1.set) : View.canon L y = lsG x y := by
  refine View.canon_apply_of_pieces (Val := Elt Ideal) (lsG x) L ?_ y hc
  subst hL
  intro p hp j
  obtain ⟨q, _, rfl⟩ := List.mem_map.1 hp
  refine (hQ j).trans ?_
  refine congrArg (fun r => gScale (quads x r)) (Fin.ext ?_)
  show (j 0).val = (q.val + 4 * (j 0).val) / 4
  have := q.isLt
  omega

/-- Row `4 * r + q` of the scale rows holds the scale of group `r`. -/
theorem lsV_eq (y : S576x128.Idx) : lsV x y = lsG x y := spread_eq x (lsQ x) (lsQ_eq x) (lsPieces x) (lsPieces_eq x) y (ls_cover x y)

/-- The codes of token `t` as integers, by quads. -/
def cdK (t : Fin 3) : Fin 1536 → Fin 16 → ℤ := code fun s => quads x ⟨48 * t.val + s.val, by omega⟩

/-- A code row in integers: row `192 * t + g`, lane `16 * k + e` holds the code of entry `e` of quad `8 * g + k`. -/
theorem csV_code (t : Fin 3) (g : Fin 192) (k : Fin 8) (e : Fin 16) :
    csV x (ix2 (⟨192 * t.val + g.val, by omega⟩ : Fin 576) (⟨16 * k.val + e.val, by omega⟩ : Fin 128) : S576x128.Idx) = ((cdK x t ⟨8 * g.val + k.val, by omega⟩ e : ℝ) : EReal) := by
  rw [csV_eq, (gCode_eq _ _).1]
  unfold cdK code
  have h1 : (192 * t.val + g.val) / 4 = 48 * t.val + (8 * g.val + k.val) / 32 := by omega
  have h2 : 128 * ((192 * t.val + g.val) % 4) + (16 * k.val + e.val) = 16 * ((8 * g.val + k.val) % 32) + e.val := by omega
  simp only [ix2, h1, h2]

/-- The selector of the last entries: the lanes whose entry is 15. -/
theorem sel15 : ∀ k : Fin 128, IntOp.cmpi CmpIPredicate.eq
          (Scalar.select
            (IntOp.andi
              (IntOp.xori
                (IntOp.cmpi CmpIPredicate.slt
                  (IntOp.remsi ArithUnit.vector (BitVec.ofNat 32 k.val)
                    (Scalar.select (Scalar.cmpi CmpIPredicate.eq 16#32 0#32) 1#32 16#32))
                  0#32)
                (Scalar.cmpi CmpIPredicate.slt (Scalar.select (Scalar.cmpi CmpIPredicate.eq 16#32 0#32) 1#32 16#32)
                  0#32))
              (IntOp.cmpi CmpIPredicate.ne
                (IntOp.remsi ArithUnit.vector (BitVec.ofNat 32 k.val)
                  (Scalar.select (Scalar.cmpi CmpIPredicate.eq 16#32 0#32) 1#32 16#32))
                0#32))
            (IntOp.addi
              (IntOp.remsi ArithUnit.vector (BitVec.ofNat 32 k.val)
                (Scalar.select (Scalar.cmpi CmpIPredicate.eq 16#32 0#32) 1#32 16#32))
              (Scalar.select (Scalar.cmpi CmpIPredicate.eq 16#32 0#32) 1#32 16#32))
            (IntOp.remsi ArithUnit.vector (BitVec.ofNat 32 k.val)
              (Scalar.select (Scalar.cmpi CmpIPredicate.eq 16#32 0#32) 1#32 16#32)))
          15#32 = BitVec.ofBool (decide (k.val % 16 = 15)) := by decide +kernel

/-- A sum over a product of ranges, by rows. -/
theorem sum_rows {M : Type} [AddCommMonoid M] (m n N : Nat) (h : m * n = N) (f : Fin N → M) :
    ∑ i : Fin N, f i = ∑ a : Fin m, ∑ b : Fin n, f ⟨n * a.val + b.val, by
      subst h; have := a.isLt; have := b.isLt
      calc n * a.val + b.val < n * a.val + n := by omega
        _ = n * (a.val + 1) := by ring
        _ ≤ n * m := Nat.mul_le_mul_left _ (by omega)
        _ = m * n := Nat.mul_comm _ _⟩ := by
  subst h
  rw [← Equiv.sum_comp (finProdFinEquiv : Fin m × Fin n ≃ Fin (m * n)), Fintype.sum_prod_type]
  refine Finset.sum_congr rfl fun a _ => Finset.sum_congr rfl fun b _ => ?_
  congr 1; apply Fin.ext
  show b.val + n * a.val = _
  simp only; omega

/-- A sum of integers, cast. -/
theorem coe_sum {ι : Type} (s : Finset ι) (f : ι → ℤ) : ((((∑ i ∈ s, f i : ℤ) : ℝ)) : EReal) = ∑ i ∈ s, ((f i : ℝ) : EReal) := by
  classical
  induction s using Finset.induction_on with
  | empty => simp
  | insert a s ha ih => rw [Finset.sum_insert ha, Finset.sum_insert ha, Int.cast_add, EReal.coe_add, ih]

/-- Every lane of a row of the sums holds the row's sum of the full subsets' codes. -/
theorem szV_eq (t : Fin 3) (g : Fin 192) (l : Fin 128) :
    szV x (ix2 (⟨192 * t.val + g.val, by omega⟩ : Fin 576) l : S576x128.Idx) = ((sumG (cdK x t) g : ℝ) : EReal) := by
  have h : szV x (ix2 (⟨192 * t.val + g.val, by omega⟩ : Fin 576) l : S576x128.Idx) = szOf (csV x) (ix2 (⟨192 * t.val + g.val, by omega⟩ : Fin 576) l : S576x128.Idx) := by
    refine View.canon_apply_of_pieces (Val := Elt Ideal) (szOf (csV x)) (szL x) ?_ _ (sz_cover x _)
    intro p hp j
    rw [szL, List.mem_singleton] at hp; subst hp
    have hj : ∀ j : S576x128.Idx, (Rect.unit (s := S576x128) ![0, 0] S576x128.size inb_S576x128_S576x128_0_0).emb j = j := fun j => by
      funext a; apply Fin.ext; fin_cases a
      · show 0 + 1 * (j 0).val = (j 0).val
        omega
      · show 0 + 1 * (j 1).val = (j 1).val
        omega
    show szOf (fun j => csV x ((Rect.unit (s := S576x128) ![0, 0] S576x128.size inb_S576x128_S576x128_0_0).emb j)) j = _
    simp only [hj]
  rw [h]
  pointwise [szOf, k0_pay28]
  simp only [sel15]
  rw [sum_rows 8 16 128 rfl]
  unfold sumG
  rw [coe_sum]
  refine Finset.sum_congr rfl fun k _ => ?_
  rw [Finset.sum_eq_single (15 : Fin 16)]
  · rw [csV_code x t g k 15]
    have : decide ((16 * k.val + (15 : Fin 16).val) % 16 = 15) = true := by rw [decide_eq_true_iff]; show (16 * k.val + 15) % 16 = 15; omega
    simp only [this]; rfl
  · intro e _ he
    have : decide ((16 * k.val + e.val) % 16 = 15) = false := by
      rw [decide_eq_false_iff_not]; intro h; apply he; apply Fin.ext; show e.val = 15; omega
    simp only [this]; rfl
  · simp

end Cert.KernelIdeal.Hand

end
-- ==== Proof.Mob.lean ====
/- The Moebius table and the units' left operands, at an index. -/
module

public import proofs.«01_k».proof.Proof.Rows

@[expose] public section

set_option maxRecDepth 16384

noncomputable section

namespace Cert.KernelIdeal.Hand

open Cert.KernelIdeal.Gen Cert.Spec
open Idealize.ShloMosaic Idealize.ShloMosaic.TcCoe

/-- The subset of a column of the transform. -/
theorem subsetM_apply (l : Fin 128) (c : Fin 960) : subsetM (ix2 l c : S128x960.Idx) = BitVec.ofNat 32 (c.val / 32 + 1 - 15 * (c.val / 480)) :=
  (by decide +kernel : ∀ c : Fin 960, subsetM (ix2 (0 : Fin 128) c : S128x960.Idx) = BitVec.ofNat 32 (c.val / 32 + 1 - 15 * (c.val / 480))) c
/-- The nibble of a column of the transform: 0 for the low, 1 for the high. -/
theorem oddM_apply (l : Fin 128) (c : Fin 960) : oddM (ix2 l c : S128x960.Idx) = BitVec.ofNat 32 (c.val / 480) :=
  (by decide +kernel : ∀ c : Fin 960, oddM (ix2 (0 : Fin 128) c : S128x960.Idx) = BitVec.ofNat 32 (c.val / 480)) c
/-- The byte of a column of the transform. -/
theorem byteM_apply (l : Fin 128) (c : Fin 960) : k0_pay32 colsM (ix2 l c : S128x960.Idx) = BitVec.ofNat 32 (c.val % 4) :=
  (by decide +kernel : ∀ c : Fin 960, k0_pay32 colsM (ix2 (0 : Fin 128) c : S128x960.Idx) = BitVec.ofNat 32 (c.val % 4)) c
/-- The entry of a lane of the transform. -/
theorem entM_apply (l : Fin 128) (c : Fin 960) : k0_pay37 16#32 (k0_pay35 lanesM) k0_pay36 (ix2 l c : S128x960.Idx) = BitVec.ofNat 32 (l.val % 16) :=
  (by decide +kernel : ∀ l : Fin 128, k0_pay37 16#32 (k0_pay35 lanesM) k0_pay36 (ix2 l (0 : Fin 960) : S128x960.Idx) = BitVec.ofNat 32 (l.val % 16)) l
/-- The quad of a lane of the transform. -/
theorem quadM_apply (l : Fin 128) (c : Fin 960) : k0_pay39 lanesM (ix2 l c : S128x960.Idx) = BitVec.ofNat 32 (l.val / 16) :=
  (by decide +kernel : ∀ l : Fin 128, k0_pay39 lanesM (ix2 l (0 : Fin 960) : S128x960.Idx) = BitVec.ofNat 32 (l.val / 16)) l
/-- The group of a row of the left operands. -/
theorem rowK_apply (r : Fin 24) (c : Fin 960) : k0_pay42 (ix2 r c : S24x960.Idx) = BitVec.ofNat 32 (r.val % 8) :=
  (by decide +kernel : ∀ r : Fin 24, k0_pay42 (ix2 r (0 : Fin 960) : S24x960.Idx) = BitVec.ofNat 32 (r.val % 8)) r
/-- The position of a column of the left operands among its 32. -/
theorem colK_apply (r : Fin 24) (c : Fin 960) : k0_pay43 (ix2 r c : S24x960.Idx) = BitVec.ofNat 32 (c.val % 32) :=
  (by decide +kernel : ∀ c : Fin 960, k0_pay43 (ix2 (0 : Fin 24) c : S24x960.Idx) = BitVec.ofNat 32 (c.val % 32)) c

/-- The Moebius sign of entry `e` in subset `S`: zero unless `e` is in `S`. -/
def msgn (S e : Nat) : ℤ :=
  if e &&& S = e then
    if (((S ^^^ e) ^^^ ((S ^^^ e) >>> 2)) ^^^ (((S ^^^ e) ^^^ ((S ^^^ e) >>> 2)) >>> 1)) % 2 = 1 then -1 else 1
  else 0

/-- The test that a lane's quad is a column's, on words. -/
theorem quad_word : ∀ (h : Fin 8) (b : Fin 4) (o : Fin 2), IntOp.cmpi CmpIPredicate.eq (BitVec.ofNat 32 h.val)
    (IntOp.addi (IntOp.muli (2#32) (BitVec.ofNat 32 b.val)) (BitVec.ofNat 32 o.val)) = BitVec.ofBool (decide (h.val = 2 * b.val + o.val)) := by decide +kernel
/-- The test that an entry lies inside a subset, on words. -/
theorem sub_word : ∀ (S e : Fin 16), IntOp.cmpi CmpIPredicate.eq (IntOp.andi (BitVec.ofNat 32 e.val) (IntOp.xori (BitVec.ofNat 32 S.val) 4294967295#32)) 0#32
    = BitVec.ofBool (decide (e.val &&& S.val = e.val)) := by decide +kernel
/-- The parity of the bits in which a subset and an entry differ, on words. -/
theorem par_word : ∀ (S e : Fin 16), IntOp.cmpi CmpIPredicate.eq
          (IntOp.andi
            (IntOp.xori
              (IntOp.xori (IntOp.xori (BitVec.ofNat 32 S.val) (BitVec.ofNat 32 e.val))
                (IntOp.shrsi ArithUnit.vector (IntOp.xori (BitVec.ofNat 32 S.val) (BitVec.ofNat 32 e.val)) 2#32))
              (IntOp.shrsi ArithUnit.vector
                (IntOp.xori (IntOp.xori (BitVec.ofNat 32 S.val) (BitVec.ofNat 32 e.val))
                  (IntOp.shrsi ArithUnit.vector (IntOp.xori (BitVec.ofNat 32 S.val) (BitVec.ofNat 32 e.val)) 2#32))
                1#32))
            1#32)
          1#32 = BitVec.ofBool (decide ((((S.val ^^^ e.val) ^^^ ((S.val ^^^ e.val) >>> 2)) ^^^ (((S.val ^^^ e.val) ^^^ ((S.val ^^^ e.val) >>> 2)) >>> 1)) % 2 = 1)) := by decide +kernel

/-- The word of 512. -/
theorem ofBits_512 : Ideal.ofBits FTy.f32 0x44000000#32 = ((512 : ℝ) : EReal) := by
  simp [Ideal.ofBits, Ideal.ieee, -EReal.coe_mul]; norm_num
/-- The word of -512. -/
theorem ofBits_neg512 : Ideal.ofBits FTy.f32 0xC4000000#32 = ((-512 : ℝ) : EReal) := by
  simp [Ideal.ofBits, Ideal.ieee, -EReal.coe_mul, -EReal.coe_neg]; norm_num

/-- The subset of a feature. -/
def subV (v : Fin 30) : Fin 16 := ⟨v.val + 1 - 15 * (v.val / 15), by omega⟩

/-- The Moebius table at quad `h` and entry `e`, feature `v` of byte `b` of weight group `s`. -/
theorem mob_eq (h : Fin 8) (e : Fin 16) (v : Fin 30) (s : Fin 8) (b : Fin 4) :
    mob (F := Ideal) (ix2 (⟨16 * h.val + e.val, by omega⟩ : Fin 128) (⟨32 * v.val + (4 * s.val + b.val), by omega⟩ : Fin 960) : S128x960.Idx)
      = (((if h.val = 2 * b.val + v.val / 15 then 512 * msgn (subV v).val e.val else 0 : ℤ) : ℝ) : EReal) := by
  pointwise [mob, k0_pay41, k0_pay40, parM, k0_pay38, entM]
  simp only [subsetM_apply, oddM_apply, byteM_apply, entM_apply, quadM_apply]
  have e1 : (16 * h.val + e.val) / 16 = h.val := by omega
  have e2 : (16 * h.val + e.val) % 16 = e.val := by omega
  have e3 : (32 * v.val + (4 * s.val + b.val)) % 4 = b.val := by omega
  have e4 : (32 * v.val + (4 * s.val + b.val)) / 480 = v.val / 15 := by omega
  have e5 : (32 * v.val + (4 * s.val + b.val)) / 32 + 1 - 15 * (v.val / 15) = (subV v).val := by unfold subV; simp only; omega
  simp only [e1, e2, e3, e4, e5]
  have hq := quad_word h b ⟨v.val / 15, by omega⟩
  simp only at hq
  rw [hq, sub_word, par_word, ofBits_512, ofBits_neg512]
  unfold msgn
  by_cases h1 : h.val = 2 * b.val + v.val / 15
  · by_cases h2 : e.val &&& (subV v).val = e.val
    · split_ifs with h3 <;> simp [Scalar.select, IntOp.andi, h1, h2, h3]
    · simp [Scalar.select, IntOp.andi, h1, h2]
  · simp [Scalar.select, IntOp.andi, h1]

/-- Where the rows of the left operands are not cleared: the row's weight group is the column's. -/
theorem keep_eq (r : Fin 24) (c : Fin 960) : keep (ix2 r c : S24x960.Idx) = BitVec.ofBool (decide (r.val % 8 = c.val % 32 / 4)) := by
  pointwise [keep, k0_pay47, k0_pay44, k0_pay45, k0_pay46]
  simp only [rowK_apply, colK_apply]
  have hm : r.val % 8 < 8 := Nat.mod_lt _ (by decide)
  have hn : c.val % 32 < 32 := Nat.mod_lt _ (by decide)
  generalize r.val % 8 = m at hm ⊢
  generalize c.val % 32 = n at hn ⊢
  revert n m
  decide +kernel

/-- A unit's left operand: the Moebius transform of the codes of the row's weight group, at the columns of that group. -/
theorem lhsUnit_eq (cs : Fin 3 → Vec Ideal S8x128 .f32) (f : Fin 8 → Fin 16 → ℤ) (t : Fin 3) (s s' : Fin 8) (v : Fin 30) (b : Fin 4)
    (hf : ∀ k e, cs t (ix2 s (⟨16 * (k : Fin 8).val + (e : Fin 16).val, by omega⟩ : Fin 128)) = ((f k e : ℝ) : EReal)) :
    lhsUnit cs (ix3 (0 : Fin 1) (⟨8 * t.val + s.val, by omega⟩ : Fin 24) (⟨32 * v.val + (4 * s'.val + b.val), by omega⟩ : Fin 960))
      = (((if s = s' then ∑ e : Fin 16, f ⟨2 * b.val + v.val / 15, by omega⟩ e * (512 * msgn (subV v).val e.val) else 0 : ℤ) : ℝ) : EReal) := by
  pointwise [lhsUnit]
  rw [keep_eq]
  have ed : decide ((8 * t.val + s.val) % 8 = (32 * v.val + (4 * s'.val + b.val)) % 32 / 4) = decide (s = s') := by
    rw [decide_eq_decide, Fin.ext_iff]; omega
  rw [ed]
  by_cases hs : s = s'
  · subst hs
    simp only [decide_true, if_true]
    rw [sum_rows 8 16 128 rfl]
    have hd : ∀ l : Fin 128, (if h : 8 * t.val + s.val < 8 then cs 0 (ix2 (⟨8 * t.val + s.val, h⟩ : Fin 8) l)
        else if h' : 8 * t.val + s.val - 8 < 8 then cs 1 (ix2 (⟨8 * t.val + s.val - 8, h'⟩ : Fin 8) l)
          else cs 2 (ix2 (⟨8 * t.val + s.val - 8 - 8, by omega⟩ : Fin 8) l)) = cs t (ix2 s l) := fun l => by
      have hsl := s.isLt
      have ht : t = 0 ∨ t = 1 ∨ t = 2 := (by decide : ∀ t : Fin 3, t = 0 ∨ t = 1 ∨ t = 2) t
      rcases ht with rfl | rfl | rfl
      · rw [dif_pos (by show 8 * 0 + s.val < 8; omega)]
        refine congrArg (fun i => cs 0 (ix2 i l)) (Fin.ext ?_)
        show 8 * 0 + s.val = s.val
        omega
      · rw [dif_neg (by show ¬ 8 * 1 + s.val < 8; omega), dif_pos (by show 8 * 1 + s.val - 8 < 8; omega)]
        refine congrArg (fun i => cs 1 (ix2 i l)) (Fin.ext ?_)
        show 8 * 1 + s.val - 8 = s.val
        omega
      · rw [dif_neg (by show ¬ 8 * 2 + s.val < 8; omega), dif_neg (by show ¬ 8 * 2 + s.val - 8 < 8; omega)]
        refine congrArg (fun i => cs 2 (ix2 i l)) (Fin.ext ?_)
        show 8 * 2 + s.val - 8 - 8 = s.val
        omega
    simp only [hd, hf, mob_eq]
    have hz : ∀ z : EReal, Scalar.select (BitVec.ofBool true) z 0 = z := fun _ => rfl
    rw [hz]
    have hin : ∀ a : Fin 8, ∑ e : Fin 16, ((f a e : ℝ) : EReal) * (((if a.val = 2 * b.val + v.val / 15 then 512 * msgn (subV v).val e.val else 0 : ℤ) : ℝ) : EReal)
        = (((∑ e : Fin 16, f a e * (if a.val = 2 * b.val + v.val / 15 then 512 * msgn (subV v).val e.val else 0) : ℤ) : ℝ) : EReal) := fun a => by
      rw [coe_sum]; refine Finset.sum_congr rfl fun e _ => ?_
      rw [Int.cast_mul, EReal.coe_mul]
    simp only [hin]
    rw [← coe_sum]
    congr 2
    rw [Finset.sum_eq_single (⟨2 * b.val + v.val / 15, by omega⟩ : Fin 8)]
    · simp
    · intro a _ ha
      have : ¬ a.val = 2 * b.val + v.val / 15 := fun h => ha (Fin.ext h)
      simp [this]
    · simp
  · simp [hs, Scalar.select]

end Cert.KernelIdeal.Hand

end
-- ==== Proof.Feat.lean ====
/- The feature bytes of the weight planes, at an index. -/
module

public import proofs.«01_k».proof.Proof.Mob
public import Idealize.ShloMosaic.Lib.BitcastFour

@[expose] public section

set_option maxRecDepth 16384

noncomputable section

namespace Cert.KernelIdeal.Hand

open Cert.KernelIdeal.Gen Cert.Spec
open Idealize.ShloMosaic Idealize.ShloMosaic.TcCoe

/-- Exclusive or with the same bit twice changes nothing. -/
theorem xor_mid (x y : Bool) : (x ^^ (y ^^ x)) = y := by cases x <;> cases y <;> rfl

/-- The exchange of single bits: the first word keeps its even bits and takes the second's even bits at the odd ones. -/
theorem swapL1_bit (a b : IVec S8x128 32) (y : S8x128.Idx) (i : Nat) (hi : i < 32) :
    (swapL 1#32 1431655765#32 a b y).getLsbD i = if i % 2 = 0 then (a y).getLsbD i else (b y).getLsbD (i - 1) := by
  show (IntOp.xori (a y) (IntOp.shli .vector (IntOp.andi (IntOp.xori (IntOp.shrsi .vector (a y) 1#32) (b y)) 1431655765#32) 1#32)).getLsbD i = _
  generalize a y = p; generalize b y = q
  simp only [IntOp.xori, IntOp.shli, IntOp.andi, IntOp.shrsi]
  interval_cases i <;> simp [BitVec.getLsbD_sshiftRight, BitVec.getElem_sshiftRight, xor_mid]

/-- The second word takes the first's odd bits at its even ones. -/
theorem swapR1_bit (a b : IVec S8x128 32) (y : S8x128.Idx) (i : Nat) (hi : i < 32) :
    (swapR 1#32 1431655765#32 a b y).getLsbD i = if i % 2 = 0 then (a y).getLsbD (i + 1) else (b y).getLsbD i := by
  show (IntOp.xori (b y) (IntOp.andi (IntOp.xori (IntOp.shrsi .vector (a y) 1#32) (b y)) 1431655765#32)).getLsbD i = _
  generalize a y = p; generalize b y = q
  simp only [IntOp.xori, IntOp.andi, IntOp.shrsi]
  interval_cases i <;> simp [BitVec.getLsbD_sshiftRight, BitVec.getElem_sshiftRight, xor_mid]

/-- The exchange of pairs of bits: the first word keeps the low pair of every nibble and takes the second's low pair as high pair. -/
theorem swapL2_bit (a b : IVec S8x128 32) (y : S8x128.Idx) (i : Nat) (hi : i < 32) :
    (swapL 2#32 858993459#32 a b y).getLsbD i = if i % 4 < 2 then (a y).getLsbD i else (b y).getLsbD (i - 2) := by
  show (IntOp.xori (a y) (IntOp.shli .vector (IntOp.andi (IntOp.xori (IntOp.shrsi .vector (a y) 2#32) (b y)) 858993459#32) 2#32)).getLsbD i = _
  generalize a y = p; generalize b y = q
  simp only [IntOp.xori, IntOp.shli, IntOp.andi, IntOp.shrsi]
  interval_cases i <;> simp [BitVec.getLsbD_sshiftRight, BitVec.getElem_sshiftRight, xor_mid]

/-- The second word takes the first's high pair as low pair. -/
theorem swapR2_bit (a b : IVec S8x128 32) (y : S8x128.Idx) (i : Nat) (hi : i < 32) :
    (swapR 2#32 858993459#32 a b y).getLsbD i = if i % 4 < 2 then (a y).getLsbD (i + 2) else (b y).getLsbD i := by
  show (IntOp.xori (b y) (IntOp.andi (IntOp.xori (IntOp.shrsi .vector (a y) 2#32) (b y)) 858993459#32)).getLsbD i = _
  generalize a y = p; generalize b y = q
  simp only [IntOp.xori, IntOp.andi, IntOp.shrsi]
  interval_cases i <;> simp [BitVec.getLsbD_sshiftRight, BitVec.getElem_sshiftRight, xor_mid]

/-- Bit `p` of nibble `n` of the collected word is bit `j` of nibble `n` of plane `p`'s word. -/
theorem quadBits_bit (a : Fin 4 → IVec S8x128 32) (j p : Fin 4) (n : Nat) (hn : n < 8) (y : S8x128.Idx) :
    (quadBits a j y).getLsbD (4 * n + p.val) = (a p y).getLsbD (4 * n + j.val) := by
  have m0 : (4 * n) % 4 = 0 := by omega
  have m1 : (4 * n + 1) % 4 = 1 := by omega
  have m2 : (4 * n + 2) % 4 = 2 := by omega
  have m3 : (4 * n + 3) % 4 = 3 := by omega
  have k0 : (4 * n) % 2 = 0 := by omega
  have k1 : (4 * n + 1) % 2 = 1 := by omega
  have k2 : (4 * n + 2) % 2 = 0 := by omega
  have k3 : (4 * n + 3) % 2 = 1 := by omega
  have s1 : 4 * n + 3 - 2 = 4 * n + 1 := by omega
  have s2 : 4 * n + 3 - 1 = 4 * n + 2 := by omega
  have s3 : 4 * n + 2 - 2 = 4 * n := by omega
  have s4 : 4 * n + 1 - 1 = 4 * n := by omega
  have l0 : 4 * n < 32 := by omega
  have l1 : 4 * n + 1 < 32 := by omega
  have l2 : 4 * n + 2 < 32 := by omega
  have l3 : 4 * n + 3 < 32 := by omega
  have hj : j = 0 ∨ j = 1 ∨ j = 2 ∨ j = 3 := (by decide : ∀ j : Fin 4, j = 0 ∨ j = 1 ∨ j = 2 ∨ j = 3) j
  have hp : p = 0 ∨ p = 1 ∨ p = 2 ∨ p = 3 := (by decide : ∀ j : Fin 4, j = 0 ∨ j = 1 ∨ j = 2 ∨ j = 3) p
  have z0 : (0 : Fin 4).val = 0 := rfl
  have z1 : (1 : Fin 4).val = 1 := rfl
  have z2 : (2 : Fin 4).val = 2 := rfl
  have z3 : (3 : Fin 4).val = 3 := rfl
  rcases hj with rfl | rfl | rfl | rfl <;> rcases hp with rfl | rfl | rfl | rfl <;>
    simp only [quadBits, swapR1_bit, swapL2_bit, swapR2_bit, Nat.add_assoc, Nat.reduceAdd, m0, m1, m2, m3, k0, k1, k2, k3, s1, s2, s3, s4, l0, l1, l2, l3, z0, z1, z2, z3, swapL1_bit, Nat.add_zero, if_true, if_false, reduceCtorEq, OfNat.one_ne_ofNat, one_ne_zero, show ¬ (2 < 2) from by decide, show ¬ (3 < 2) from by decide, show (0 < 2) from by decide, show (1 < 2) from by decide]

/-- The low nibbles: the low four bits of every byte. -/
theorem nibE_bit (q : IVec S8x128 32) (y : S8x128.Idx) (b : Fin 4) (p : Fin 8) :
    (nibE q y).getLsbD (8 * b.val + p.val) = (decide (p.val < 4) && (q y).getLsbD (8 * b.val + p.val)) := by
  show (IntOp.andi (q y) 252645135#32).getLsbD _ = _
  have hm : ∀ (b : Fin 4) (p : Fin 8), (252645135#32).getLsbD (8 * b.val + p.val) = decide (p.val < 4) := by decide
  rw [IntOp.andi, BitVec.getLsbD_and, hm, Bool.and_comm]

/-- The high nibbles: the high four bits of every byte. -/
theorem nibO_bit (q : IVec S8x128 32) (y : S8x128.Idx) (b : Fin 4) (p : Fin 8) :
    (nibO q y).getLsbD (8 * b.val + p.val) = (decide (p.val < 4) && (q y).getLsbD (8 * b.val + p.val + 4)) := by
  show (IntOp.andi (IntOp.shrsi .vector (q y) 4#32) 252645135#32).getLsbD _ = _
  have hm : ∀ (b : Fin 4) (p : Fin 8), (252645135#32).getLsbD (8 * b.val + p.val) = decide (p.val < 4) := by decide
  rw [IntOp.andi, BitVec.getLsbD_and, hm, Bool.and_comm]
  by_cases h : p.val < 4
  · have hl : ¬ 32 ≤ 8 * b.val + p.val := by omega
    have hl' : 4 + (8 * b.val + p.val) < 32 := by omega
    simp only [h, decide_true, Bool.true_and, IntOp.shrsi]
    show ((q y).sshiftRight 4).getLsbD _ = _
    rw [BitVec.getLsbD_sshiftRight, if_pos hl', Nat.add_comm 4]
    simp only [hl, decide_false, Bool.not_false, Bool.true_and]
  · simp [h]

/-- A bit of a product of words is set when the nibble of the words' bits there contains the subset. -/
theorem mono_bit (e : Fin 4 → IVec S8x128 32) (k : Fin 16) (hk : k.val ≠ 0) (y : S8x128.Idx) (i : Nat) (nib : Fin 16)
    (h : ∀ j : Fin 4, (e j y).getLsbD i = nib.val.testBit j.val) :
    (mono e k y).getLsbD i = decide (k.val &&& nib.val = k.val) := by
  have h0 : (e 0 y).getLsbD i = nib.val.testBit 0 := h 0
  have h1 : (e 1 y).getLsbD i = nib.val.testBit 1 := h 1
  have h2 : (e 2 y).getLsbD i = nib.val.testBit 2 := h 2
  have h3 : (e 3 y).getLsbD i = nib.val.testBit 3 := h 3
  have key : (mono e k y).getLsbD i = ((!k.val.testBit 0 || nib.val.testBit 0) && (!k.val.testBit 1 || nib.val.testBit 1)
      && (!k.val.testBit 2 || nib.val.testBit 2) && (!k.val.testBit 3 || nib.val.testBit 3)) := by
    rw [← h0, ← h1, ← h2, ← h3]
    generalize h0' : (e 0 y).getLsbD i = b0
    generalize h1' : (e 1 y).getLsbD i = b1
    generalize h2' : (e 2 y).getLsbD i = b2
    generalize h3' : (e 3 y).getLsbD i = b3
    fin_cases k <;> first
      | exact absurd rfl hk
      | (simp only [mono, andi, IntOp.andi, BitVec.getLsbD_and, h0', h1', h2', h3']; clear h0' h1' h2' h3'; revert b0 b1 b2 b3; decide)
  rw [key]
  revert k nib
  exact fun k _ nib _ _ _ _ _ _ => (by decide : ∀ k nib : Fin 16, ((!k.val.testBit 0 || nib.val.testBit 0) && (!k.val.testBit 1 || nib.val.testBit 1)
      && (!k.val.testBit 2 || nib.val.testBit 2) && (!k.val.testBit 3 || nib.val.testBit 3)) = decide (k.val &&& nib.val = k.val)) k nib

/-- A bit of a product of words is clear where all the words' bits are. -/
theorem mono_bit_false (e : Fin 4 → IVec S8x128 32) (k : Fin 16) (hk : k.val ≠ 0) (y : S8x128.Idx) (i : Nat)
    (h : ∀ j : Fin 4, (e j y).getLsbD i = false) : (mono e k y).getLsbD i = false := by
  rw [mono_bit e k hk y i 0 (fun j => by rw [h j]; simp)]
  revert hk
  exact (by decide : ∀ k : Fin 16, k.val ≠ 0 → decide (k.val &&& (0 : Fin 16).val = k.val) = false) k

/-- The words of feature `v`. -/
def featW (q : Fin 4 → IVec S8x128 32) (v : Fin 30) : IVec S8x128 32 :=
  mono (fun j => if v.val < 15 then nibE (q j) else nibO (q j)) (subV v)

/-- The features are the concatenation of thirty words. -/
theorem feats_ofFn (q : Fin 4 → IVec S8x128 32) (h) :
    feats q = concatenate S240x128 0 (List.ofFn fun n : Fin 30 => (⟨S8x128, featW q n⟩ : (s : Shape) × (s.Idx → BitVec 32))) h := rfl

/-- The features, eight rows each. -/
theorem feats_apply (q : Fin 4 → IVec S8x128 32) (v : Fin 30) (s : Fin 8) (l : Fin 128) :
    feats q (ix2 (⟨8 * v.val + s.val, by omega⟩ : Fin 240) l : S240x128.Idx) = featW q v (ix2 s l) := by
  rw [feats_ofFn q concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S240x128_d0]
  refine concatenate_ofFn_apply (t := S240x128) (s₁ := S8x128) (0 : Fin 2) (featW q) _ rfl 8 rfl _ v ?_ _ ?_ ?_
  · show (8 * v.val + s.val) / 8 = v.val
    omega
  · show s.val = (8 * v.val + s.val) % 8
    omega
  · intro b hb
    match b with
    | ⟨0, _⟩ => exact absurd rfl hb
    | ⟨1, _⟩ => rfl

/-- The half of a byte that feature `v` reads. -/
def half (v : Fin 30) (b : BitVec 8) : Fin 16 := if v.val < 15 then lo b else hi b

/-- The low four bits of a byte are its low nibble's. -/
theorem lo_bit (b : BitVec 8) (j : Fin 4) : b.getLsbD j.val = (lo b).val.testBit j.val := by
  show b.toNat.testBit j.val = (b.toNat % 16).testBit j.val
  rw [show (16 : Nat) = 2 ^ 4 from rfl, Nat.testBit_mod_two_pow]
  simp
/-- The high four bits of a byte are its high nibble's. -/
theorem hi_bit (b : BitVec 8) (j : Fin 4) : b.getLsbD (j.val + 4) = (hi b).val.testBit j.val := by
  show b.toNat.testBit (j.val + 4) = (b.toNat / 16).testBit j.val
  rw [show (16 : Nat) = 2 ^ 4 from rfl, Nat.testBit_div_two_pow]

/-- A word of a plane tile, bit by bit: lane `l` is an output, its bytes four consecutive ones. -/
theorem word_bit (w : Vec Ideal S1x128x128 .i8) (s : Fin 32) (l : Fin 128) (q : Nat) (hq : q < 32) :
    (word (F := Ideal) w (ix2 s l : S32x128.Idx)).getLsbD q = (w (ix3 (0 : Fin 1) l (⟨4 * s.val + q / 8, by omega⟩ : Fin 128))).getLsbD (q % 8) := by
  unfold word
  refine (bitcast_8_32_getLsbD_ix2 (R := 128) (r := 32) (n := 128) _ _ s l q hq ⟨4 * s.val + q / 8, by omega⟩ rfl).trans ?_
  show (transpose S128x128 [1, 0] (shapeCast S128x128 w shapeCasts_S1x128x128_S128x128) transposes_S128x128_p1_0_S128x128 (ix2 (⟨4 * s.val + q / 8, by omega⟩ : Fin 128) l)).getLsbD _ = _
  pointwise []

/-- Eight rows of packed words, at an index. -/
theorem rows_apply (r : Fin 4) (w : IVec S32x128 32) (s : Fin 8) (l : Fin 128) :
    rows r w (ix2 s l) = w (ix2 (⟨8 * r.val + s.val, by omega⟩ : Fin 32) l) := by
  pointwise [rows]

/-- A feature word's byte `b`: in its low nibble bit `p` says whether the feature's subset lies in plane `p`'s nibble; its high nibble is clear. -/
theorem featW_bit (r : Fin 4) (w : Fin 4 → Vec Ideal S1x128x128 .i8) (v : Fin 30) (s : Fin 8) (b : Fin 4) (l : Fin 128) (p : Fin 4) :
    (featW (quadBits fun p => rows r (word (F := Ideal) (w p))) v (ix2 s l)).getLsbD (8 * b.val + p.val)
      = decide ((subV v).val &&& (half v (w p (ix3 (0 : Fin 1) l (⟨4 * (8 * r.val + s.val) + b.val, by omega⟩ : Fin 128)))).val = (subV v).val) := by
  have hS : (subV v).val ≠ 0 := by show v.val + 1 - 15 * (v.val / 15) ≠ 0; omega
  unfold featW
  refine mono_bit _ _ hS _ _ _ fun j => ?_
  unfold half
  by_cases hv : v.val < 15
  · simp only [hv, if_true]
    rw [nibE_bit _ _ b ⟨p.val, by omega⟩]
    have e1 : 8 * b.val + p.val = 4 * (2 * b.val) + p.val := by omega
    have h1 := quadBits_bit (fun p => rows r (word (F := Ideal) (w p))) j p (2 * b.val) (by omega) (ix2 s l)
    simp only [p.isLt, decide_true, Bool.true_and, e1]
    rw [h1, rows_apply, word_bit _ _ _ _ (by omega), ← lo_bit]
    have e2 : (4 * (2 * b.val) + j.val) / 8 = b.val := by omega
    have e3 : (4 * (2 * b.val) + j.val) % 8 = j.val := by omega
    simp only [e2, e3]
  · simp only [hv, if_false]
    rw [nibO_bit _ _ b ⟨p.val, by omega⟩]
    have e1 : 8 * b.val + p.val + 4 = 4 * (2 * b.val + 1) + p.val := by omega
    have h1 := quadBits_bit (fun p => rows r (word (F := Ideal) (w p))) j p (2 * b.val + 1) (by omega) (ix2 s l)
    simp only [p.isLt, decide_true, Bool.true_and, e1]
    rw [h1, rows_apply, word_bit _ _ _ _ (by omega), ← hi_bit]
    have e2 : (4 * (2 * b.val + 1) + j.val) / 8 = b.val := by omega
    have e3 : (4 * (2 * b.val + 1) + j.val) % 8 = j.val + 4 := by omega
    simp only [e2, e3]

/-- The high four bits of a feature byte are clear. -/
theorem featW_bit_high (q : Fin 4 → IVec S8x128 32) (v : Fin 30) (y : S8x128.Idx) (b : Fin 4) (p : Fin 8) (hp : 4 ≤ p.val) :
    (featW q v y).getLsbD (8 * b.val + p.val) = false := by
  have hS : (subV v).val ≠ 0 := by show v.val + 1 - 15 * (v.val / 15) ≠ 0; omega
  have hp' : ¬ p.val < 4 := by omega
  unfold featW
  refine mono_bit_false _ _ hS _ _ fun j => ?_
  by_cases hv : v.val < 15
  · simp only [hv, if_true]
    rw [nibE_bit]
    simp [hp']
  · simp only [hv, if_false]
    rw [nibO_bit]
    simp [hp']

/-- The planes whose nibble contains the feature's subset, weighted by the planes' weights. -/
def cnt (v : Fin 30) (B : Fin 4 → BitVec 8) : ℤ :=
  ∑ p : Fin 4, if (subV v).val &&& (half v (B p)).val = (subV v).val then (2 : ℤ) ^ p.val else 0

/-- A float8 byte below sixteen: that many quanta of `2⁻⁹`. -/
theorem ofBits_f8 (n : Fin 16) : Ideal.ofBits FTy.fp8e4m3 (BitVec.ofNat 8 n.val) = (((n.val : ℝ) / 512 : ℝ) : EReal) := by
  fin_cases n <;> simp [Ideal.ofBits, Ideal.e4m3fn, Ideal.ieee, -EReal.coe_mul] <;> norm_num

/-- A byte with its high four bits clear reads, as an fp8 number, as its low four bits' number over 512. -/
theorem byte_of_bits (X : BitVec 8) (f : Fin 4 → Bool) (h0 : ∀ p : Fin 4, X.getLsbD p.val = f p) (h1 : ∀ p : Fin 8, 4 ≤ p.val → X.getLsbD p.val = false) :
    Ideal.ofBits FTy.fp8e4m3 X = ((((∑ p : Fin 4, if f p then (2 : ℤ) ^ p.val else 0 : ℤ) : ℝ) / 512 : ℝ) : EReal) := by
  have key : ∀ f : Fin 4 → Bool, ∃ n : Fin 16, (n.val : ℤ) = (∑ p : Fin 4, if f p then (2 : ℤ) ^ p.val else 0) ∧
      (∀ p : Fin 4, (BitVec.ofNat 8 n.val).getLsbD p.val = f p) ∧ (∀ p : Fin 8, 4 ≤ p.val → (BitVec.ofNat 8 n.val).getLsbD p.val = false) := by decide +kernel
  obtain ⟨n, hn, k0, k1⟩ := key f
  have hX : X = BitVec.ofNat 8 n.val := by
    apply BitVec.eq_of_getLsbD_eq
    intro i hi
    by_cases h : i < 4
    · exact (h0 ⟨i, h⟩).trans (k0 ⟨i, h⟩).symm
    · exact (h1 ⟨i, hi⟩ (by show 4 ≤ i; omega)).trans (k1 ⟨i, hi⟩ (by show 4 ≤ i; omega)).symm
  rw [hX, ofBits_f8, ← hn]
  simp

/-- The features of a plane-tile column: feature `v` of byte `b` of weight group `s`. -/
theorem featCol_eq (r : Fin 4) (w : Fin 4 → Vec Ideal S1x128x128 .i8) (v : Fin 30) (s : Fin 8) (b : Fin 4) (l : Fin 128) :
    featCol (F := Ideal) r w (ix2 (⟨32 * v.val + (4 * s.val + b.val), by omega⟩ : Fin 960) l)
      = ((((cnt v fun p => w p (ix3 (0 : Fin 1) l (⟨4 * (8 * r.val + s.val) + b.val, by omega⟩ : Fin 128)) : ℤ) : ℝ) / 512 : ℝ) : EReal) := by
  have hbit : ∀ p : Fin 8, (bitcast S960x128 8 (feats (quadBits fun p => rows r (word (F := Ideal) (w p)))) bitcasts_S240x128_w32_S960x128_w8
      (ix2 (⟨32 * v.val + (4 * s.val + b.val), by omega⟩ : Fin 960) l)).getLsbD p.val
      = (featW (quadBits fun p => rows r (word (F := Ideal) (w p))) v (ix2 s l)).getLsbD (8 * b.val + p.val) := fun p => by
    rw [bitcast_getLsbD _ _ _ p.val p.isLt (by decide), ← feats_apply]
    have hr : S960x128.row (ix2 (⟨32 * v.val + (4 * s.val + b.val), by omega⟩ : Fin 960) l) = 32 * v.val + (4 * s.val + b.val) := rfl
    have e1 : (S960x128.row (ix2 (⟨32 * v.val + (4 * s.val + b.val), by omega⟩ : Fin 960) l) * 8 + p.val) / 32 = 8 * v.val + s.val := by rw [hr]; omega
    have e2 : (S960x128.row (ix2 (⟨32 * v.val + (4 * s.val + b.val), by omega⟩ : Fin 960) l) * 8 + p.val) % 32 = 8 * b.val + p.val := by rw [hr]; omega
    rw [e2]
    refine congrArg (fun y => BitVec.getLsbD (feats (quadBits fun p => rows r (word (F := Ideal) (w p))) y) (8 * b.val + p.val)) ?_
    funext c
    match c with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  show Ideal.ofBits FTy.fp8e4m3 (bitcast S960x128 8 (feats (quadBits fun p => rows r (word (F := Ideal) (w p)))) bitcasts_S240x128_w32_S960x128_w8
      (ix2 (⟨32 * v.val + (4 * s.val + b.val), by omega⟩ : Fin 960) l)) = _
  rw [byte_of_bits _ (fun p => decide ((subV v).val &&& (half v (w p (ix3 (0 : Fin 1) l (⟨4 * (8 * r.val + s.val) + b.val, by omega⟩ : Fin 128)))).val = (subV v).val))
    (fun p => (hbit ⟨p.val, by omega⟩).trans (featW_bit r w v s b l p)) (fun p hp => (hbit p).trans (featW_bit_high _ _ _ _ _ hp))]
  unfold cnt
  simp

end Cert.KernelIdeal.Hand

end
-- ==== Proof.Dot.lean ====
/- The table sums of a unit, as integers: the Moebius coefficients against the feature bytes give the looked-up codes. -/
module

public import proofs.«01_k».proof.Proof.Feat

@[expose] public section

set_option maxRecDepth 16384

noncomputable section

namespace Cert.KernelIdeal.Hand

open Cert.KernelIdeal.Gen Cert.Spec
open Idealize.ShloMosaic Idealize.ShloMosaic.TcCoe

/-- The signs of the subsets inside a nibble cancel at every entry but the nibble itself and zero. -/
theorem msgn_sum : ∀ nib e : Fin 16, ∑ S : Fin 15, msgn (S.val + 1) e.val * (if (S.val + 1) &&& nib.val = S.val + 1 then 1 else 0)
    = (if e = nib then 1 else 0) - (if e = 0 then 1 else 0) := by decide +kernel

/-- Moebius inversion: the transform of a table, summed over the subsets inside a nibble, is the nibble's entry less entry zero. -/
theorem moebius (F : Fin 16 → ℤ) (nib : Fin 16) :
    ∑ S : Fin 15, (∑ e : Fin 16, F e * msgn (S.val + 1) e.val) * (if (S.val + 1) &&& nib.val = S.val + 1 then 1 else 0) = F nib - F 0 := by
  simp only [Finset.sum_mul]
  rw [Finset.sum_comm]
  have h : ∀ e : Fin 16, ∑ S : Fin 15, F e * msgn (S.val + 1) e.val * (if (S.val + 1) &&& nib.val = S.val + 1 then 1 else 0)
      = F e * ((if e = nib then 1 else 0) - (if e = 0 then 1 else 0)) := fun e => by
    rw [← msgn_sum, Finset.mul_sum]
    exact Finset.sum_congr rfl fun S _ => mul_assoc _ _ _
  rw [Finset.sum_congr rfl fun e _ => h e]
  simp only [mul_sub, Finset.sum_sub_distrib, mul_ite, mul_one, mul_zero, Finset.sum_ite_eq', Finset.sum_ite_eq, Finset.mem_univ, if_true]

/-- The features of the low nibbles (`h = 0`) or the high ones (`h = 1`) of four bytes, one per plane. -/
theorem feat_sum (F : Fin 16 → ℤ) (hF : F 0 = 0) (h : Fin 2) (B : Fin 4 → BitVec 8) :
    ∑ S : Fin 15, (∑ e : Fin 16, F e * msgn (subV ⟨15 * h.val + S.val, by omega⟩).val e.val) * cnt ⟨15 * h.val + S.val, by omega⟩ B
      = ∑ p : Fin 4, F (if h = 0 then lo (B p) else hi (B p)) * 2 ^ p.val := by
  have e1 : ∀ S : Fin 15, (subV ⟨15 * h.val + S.val, by omega⟩).val = S.val + 1 := fun S => by
    show 15 * h.val + S.val + 1 - 15 * ((15 * h.val + S.val) / 15) = S.val + 1
    omega
  have e2 : ∀ (S : Fin 15) (b : BitVec 8), half ⟨15 * h.val + S.val, by omega⟩ b = if h = 0 then lo b else hi b := fun S b => by
    unfold half
    refine if_congr ?_ rfl rfl
    show 15 * h.val + S.val < 15 ↔ h = 0
    rw [Fin.ext_iff]
    show _ ↔ h.val = 0
    omega
  simp only [cnt, e1, e2]
  simp only [Finset.mul_sum]
  rw [Finset.sum_comm]
  refine Finset.sum_congr rfl fun p _ => ?_
  rw [show F (if h = 0 then lo (B p) else hi (B p)) = F (if h = 0 then lo (B p) else hi (B p)) - F 0 from by rw [hF, sub_zero], ← moebius, Finset.sum_mul]
  refine Finset.sum_congr rfl fun S _ => ?_
  split_ifs <;> simp

/-- The thirty features of four bytes of each plane against the transform of their eight quads' tables: the looked-up codes. -/
theorem feats_sum (f : Fin 8 → Fin 16 → ℤ) (hf : ∀ k, f k 0 = 0) (B : Fin 4 → Fin 4 → BitVec 8) :
    ∑ v : Fin 30, ∑ b : Fin 4, (∑ e : Fin 16, f ⟨2 * b.val + v.val / 15, by omega⟩ e * msgn (subV v).val e.val) * cnt v (B b)
      = ∑ p : Fin 4, (∑ b : Fin 4, (f ⟨2 * b.val, by omega⟩ (lo (B b p)) + f ⟨2 * b.val + 1, by omega⟩ (hi (B b p)))) * 2 ^ p.val := by
  rw [Finset.sum_comm]
  have h1 : ∀ b : Fin 4, ∑ v : Fin 30, (∑ e : Fin 16, f ⟨2 * b.val + v.val / 15, by omega⟩ e * msgn (subV v).val e.val) * cnt v (B b)
      = ∑ p : Fin 4, (f ⟨2 * b.val, by omega⟩ (lo (B b p)) + f ⟨2 * b.val + 1, by omega⟩ (hi (B b p))) * 2 ^ p.val := fun b => by
    rw [sum_rows 2 15 30 rfl]
    have h2 : ∀ h : Fin 2, ∑ S : Fin 15, (∑ e : Fin 16, f ⟨2 * b.val + (15 * h.val + S.val) / 15, by omega⟩ e * msgn (subV ⟨15 * h.val + S.val, by omega⟩).val e.val)
        * cnt ⟨15 * h.val + S.val, by omega⟩ (B b) = ∑ p : Fin 4, f ⟨2 * b.val + h.val, by omega⟩ (if h = 0 then lo (B b p) else hi (B b p)) * 2 ^ p.val := fun h => by
      rw [← feat_sum (f ⟨2 * b.val + h.val, by omega⟩) (hf _) h (B b)]
      refine Finset.sum_congr rfl fun S _ => ?_
      have : (⟨2 * b.val + (15 * h.val + S.val) / 15, by omega⟩ : Fin 8) = ⟨2 * b.val + h.val, by omega⟩ := Fin.ext (by
        show 2 * b.val + (15 * h.val + S.val) / 15 = 2 * b.val + h.val
        omega)
      rw [this]
    rw [Fin.sum_univ_two]
    refine (congrArg₂ (· + ·) (h2 0) (h2 1)).trans ?_
    rw [← Finset.sum_add_distrib]
    refine Finset.sum_congr rfl fun p _ => ?_
    rw [add_mul]
    rfl
  simp only [h1]
  rw [Finset.sum_comm]
  exact Finset.sum_congr rfl fun p _ => (Finset.sum_mul _ _ _).symm

/-- What the unit's looked-up codes sum to, from the four planes' four bytes. -/
def lookU (f : Fin 8 → Fin 16 → ℤ) (B : Fin 4 → Fin 4 → BitVec 8) : ℤ :=
  ∑ p : Fin 4, (∑ b : Fin 4, (f ⟨2 * b.val, by omega⟩ (lo (B b p)) + f ⟨2 * b.val + 1, by omega⟩ (hi (B b p)))) * 2 ^ p.val

/-- The columns of the right operand: the features of the first output tile, then those of the second. -/
theorem featCol_pair (r : Fin 4) (w : Fin 2 → Fin 4 → Vec Ideal S1x128x128 .i8) (x : Fin 960) (cc : Fin 2) (l : Fin 128) :
    (if h : 128 * cc.val + l.val < 128 then featCol (F := Ideal) r (w 0) (ix2 x (⟨128 * cc.val + l.val, h⟩ : Fin 128))
      else featCol (F := Ideal) r (w 1) (ix2 x (⟨128 * cc.val + l.val - 128, by omega⟩ : Fin 128))) = featCol (F := Ideal) r (w cc) (ix2 x l) := by
  have hl := l.isLt
  have hc : cc = 0 ∨ cc = 1 := (by decide : ∀ t : Fin 2, t = 0 ∨ t = 1) cc
  rcases hc with rfl | rfl
  · rw [dif_pos (by show 128 * 0 + l.val < 128; omega)]
    refine congrArg (fun i => featCol (F := Ideal) r (w 0) (ix2 x i)) (Fin.ext ?_)
    show 128 * 0 + l.val = l.val
    omega
  · rw [dif_neg (by show ¬ 128 * 1 + l.val < 128; omega)]
    refine congrArg (fun i => featCol (F := Ideal) r (w 1) (ix2 x i)) (Fin.ext ?_)
    show 128 * 1 + l.val - 128 = l.val
    omega

/-- A row of a unit's table sums: where the left operand is the Moebius transform of the row's tables, the looked-up codes. -/
theorem unitDot_eq (r : Fin 4) (w : Fin 2 → Fin 4 → Vec Ideal S1x128x128 .i8) (lhs : Vec Ideal S1x24x960 .bf16) (f : Fin 8 → Fin 16 → ℤ)
    (hf : ∀ k, f k 0 = 0) (t : Fin 3) (s : Fin 8)
    (hl : ∀ (s' : Fin 8) (v : Fin 30) (b : Fin 4), lhs (ix3 (0 : Fin 1) (⟨8 * t.val + s.val, by omega⟩ : Fin 24) (⟨32 * v.val + (4 * s'.val + b.val), by omega⟩ : Fin 960))
      = (((if s = s' then ∑ e : Fin 16, f ⟨2 * b.val + v.val / 15, by omega⟩ e * (512 * msgn (subV v).val e.val) else 0 : ℤ) : ℝ) : EReal))
    (cc : Fin 2) (l : Fin 128) :
    unitDot (F := Ideal) r w lhs (ix2 (⟨8 * t.val + s.val, by omega⟩ : Fin 24) (⟨128 * cc.val + l.val, by omega⟩ : Fin 256))
      = ((lookU f fun b p => w cc p (ix3 (0 : Fin 1) l (⟨4 * (8 * r.val + s.val) + b.val, by omega⟩ : Fin 128)) : ℝ) : EReal) := by
  pointwise [unitDot]
  have hp := fun x => featCol_pair r w x cc l
  simp only [hp]
  rw [sum_rows 30 32 960 rfl]
  have h1 : ∀ v : Fin 30, ∑ q : Fin 32, lhs (ix3 (0 : Fin 1) (⟨8 * t.val + s.val, by omega⟩ : Fin 24) (⟨32 * v.val + q.val, by omega⟩ : Fin 960))
        * featCol (F := Ideal) r (w cc) (ix2 (⟨32 * v.val + q.val, by omega⟩ : Fin 960) l)
      = ((∑ b : Fin 4, (∑ e : Fin 16, f ⟨2 * b.val + v.val / 15, by omega⟩ e * msgn (subV v).val e.val)
          * cnt v (fun p => w cc p (ix3 (0 : Fin 1) l (⟨4 * (8 * r.val + s.val) + b.val, by omega⟩ : Fin 128))) : ℤ) : ℝ) := fun v => by
    rw [sum_rows 8 4 32 rfl, Finset.sum_eq_single s]
    · rw [coe_sum]
      refine Finset.sum_congr rfl fun b _ => ?_
      rw [hl s v b, featCol_eq, if_pos rfl, ← EReal.coe_mul]
      congr 1
      have : (∑ e : Fin 16, f ⟨2 * b.val + v.val / 15, by omega⟩ e * (512 * msgn (subV v).val e.val)) = 512 * ∑ e : Fin 16, f ⟨2 * b.val + v.val / 15, by omega⟩ e * msgn (subV v).val e.val := by
        rw [Finset.mul_sum]; exact Finset.sum_congr rfl fun e _ => by ring
      rw [this]
      push_cast
      ring
    · intro s' _ hs
      refine Finset.sum_eq_zero fun b _ => ?_
      rw [hl s' v b, if_neg fun h => hs h.symm]
      simp
    · simp
  refine (Finset.sum_congr rfl fun v _ => h1 v).trans ?_
  rw [← coe_sum, feats_sum f hf fun b p => w cc p (ix3 (0 : Fin 1) l (⟨4 * (8 * r.val + s.val) + b.val, by omega⟩ : Fin 128))]
  rfl

end Cert.KernelIdeal.Hand

end
-- ==== Proof.KernelY.lean ====
/- The output block of the kernel, at an index. -/
module

public import proofs.«01_k».proof.Proof.Dot

@[expose] public section

set_option maxRecDepth 16384

noncomputable section

namespace Cert.KernelIdeal.Hand

open Cert.KernelIdeal.Gen Cert.Spec
open Idealize.ShloMosaic Idealize.ShloMosaic.TcCoe

/-- A scale is never zero. -/
theorem gScale_ne (a : Fin 32 → Fin 4 → EReal) : gScale a ≠ 0 := by
  unfold gScale
  split_ifs with h
  · exact one_ne_zero
  · rw [ofBits_127, Ideal.div_coe (by norm_num)]
    intro h0
    rcases mul_eq_zero.1 h0 with h1 | h1
    · exact h h1
    · exact absurd (EReal.coe_eq_zero.1 h1) (by norm_num)

/-- The code of the empty subset is zero. -/
theorem code_zero (a : Fin 48 → Fin 32 → Fin 4 → EReal) (Q : Fin 1536) : code a Q 0 = 0 := by
  have hT : gT (a ⟨Q.val / 32, by omega⟩) ⟨16 * (Q.val % 32) + (0 : Fin 16).val, by omega⟩ = 0 := by
    unfold gT
    have : (16 * (Q.val % 32) + (0 : Fin 16).val) % 16 = 0 := by show (16 * (Q.val % 32) + 0) % 16 = 0; omega
    simp only [this]
    simp [tval, bitv]
  have hC : gCode (a ⟨Q.val / 32, by omega⟩) ⟨16 * (Q.val % 32) + (0 : Fin 16).val, by omega⟩ = ((0 : ℝ) : EReal) := by
    unfold gCode
    rw [hT, Ideal.div, if_neg (gScale_ne _), zero_mul, ofBits_127, ofBits_neg127, ← EReal.coe_zero, Ideal.liftRound_coe]
    have : Ideal.roundHalfEven 0 = 0 := by simp [Ideal.roundHalfEven]
    rw [this, ← EReal.coe_strictMono.monotone.map_max, ← EReal.coe_strictMono.monotone.map_min]
    norm_num
  have h := (gCode_eq (a ⟨Q.val / 32, by omega⟩) ⟨16 * (Q.val % 32) + (0 : Fin 16).val, by omega⟩).1
  rw [hC] at h
  have h' := EReal.coe_eq_coe_iff.1 h
  unfold code
  exact_mod_cast h'.symm

/-- The units' left operands at unit `u`, token `t`, weight group `8 * u + s`. -/
theorem lhsV_eq (x : Vec Ideal S144x128 .bf16) (u : Fin 24) (t : Fin 3) (s s' : Fin 8) (v : Fin 30) (b : Fin 4) :
    lhsV x (ix3 u (⟨8 * t.val + s.val, by omega⟩ : Fin 24) (⟨32 * v.val + (4 * s'.val + b.val), by omega⟩ : Fin 960))
      = (((if s = s' then ∑ e : Fin 16, cdK x t ⟨8 * (8 * u.val + s.val) + (2 * b.val + v.val / 15), by omega⟩ e * (512 * msgn (subV v).val e.val) else 0 : ℤ) : ℝ) : EReal) := by
  have hG : lhsV x = fun y : S24x24x960.Idx => lhsUnit (F := Ideal) (fun t j => csV x ((Rect.unit (s := S576x128) ![t.val * 192 + 8 * (y 0 : Fin 24).val, 0] S8x128.size (inb_row t (y 0))).toLoadRect.idx j))
      (ix3 (0 : Fin 1) (y 1 : Fin 24) (y 2 : Fin 960)) := by
    funext y
    refine View.canon_apply_of_pieces (Val := Elt Ideal) (fun y : S24x24x960.Idx => lhsUnit (F := Ideal) (fun t j => csV x ((Rect.unit (s := S576x128) ![t.val * 192 + 8 * (y 0 : Fin 24).val, 0] S8x128.size (inb_row t (y 0))).toLoadRect.idx j))
      (ix3 (0 : Fin 1) (y 1 : Fin 24) (y 2 : Fin 960))) (lhsL x) ?_ y (lhs_cover x y)
    intro p hp j
    obtain ⟨u, _, rfl⟩ := List.mem_map.1 hp
    have h0 : (j 0).val < 1 := (j 0).isLt
    have e0 : ((Rect.unit (s := S24x24x960) ![u.val, 0, 0] S1x24x960.size (inb_lhs u)).emb j 0 : Fin 24) = u := Fin.ext (by
      show u.val + 1 * (j 0).val = u.val
      omega)
    have e1 : ((Rect.unit (s := S24x24x960) ![u.val, 0, 0] S1x24x960.size (inb_lhs u)).emb j 1 : Fin 24) = j 1 := Fin.ext (by
      show 0 + 1 * (j 1).val = (j 1).val
      omega)
    have e2 : ((Rect.unit (s := S24x24x960) ![u.val, 0, 0] S1x24x960.size (inb_lhs u)).emb j 2 : Fin 960) = j 2 := Fin.ext (by
      show 0 + 1 * (j 2).val = (j 2).val
      omega)
    have ej : j = (ix3 (0 : Fin 1) (j 1 : Fin 24) (j 2 : Fin 960) : S1x24x960.Idx) := by
      funext c
      match c with
      | ⟨0, _⟩ => exact Fin.ext (by show (j 0).val = 0; omega)
      | ⟨1, _⟩ => rfl
      | ⟨2, _⟩ => rfl
    dsimp only
    rw [e0, e1, e2]
    exact congrArg (lhsUnit (F := Ideal) _) ej
  rw [hG]
  refine lhsUnit_eq _ (fun k e => cdK x t ⟨8 * (8 * u.val + s.val) + k.val, by omega⟩ e) t s s' v b fun k e => ?_
  rw [← csV_code x t ⟨8 * u.val + s.val, by omega⟩ k e]
  refine congrArg (csV x) ?_
  funext c
  match c with
  | ⟨0, _⟩ => exact Fin.ext (by show t.val * 192 + 8 * u.val + 1 * s.val = 192 * t.val + (8 * u.val + s.val); omega)
  | ⟨1, _⟩ => exact Fin.ext (by show 0 + 1 * (16 * k.val + e.val) = 16 * k.val + e.val; omega)

/-- The lanes twice, at an index. -/
theorem dup_apply (v : Vec Ideal S8x128 .f32) (s : Fin 8) (cc : Fin 2) (l : Fin 128) :
    dup (F := Ideal) v (ix2 s (⟨128 * cc.val + l.val, by omega⟩ : Fin 256)) = v (ix2 s l) := by
  pointwise [dup]
  have hl := l.isLt
  have hc : cc = 0 ∨ cc = 1 := (by decide : ∀ t : Fin 2, t = 0 ∨ t = 1) cc
  rcases hc with rfl | rfl
  · rw [dif_pos (by show 128 * 0 + l.val < 128; omega)]
    refine congrArg (fun i => v (ix2 s i)) (Fin.ext ?_)
    show 128 * 0 + l.val = l.val
    omega
  · rw [dif_neg (by show ¬ 128 * 1 + l.val < 128; omega)]
    refine congrArg (fun i => v (ix2 s i)) (Fin.ext ?_)
    show 128 * 1 + l.val - 128 = l.val
    omega

/-- What one unit adds, at an index. -/
theorem unitTerm_apply (t : Fin 3) (u : Fin 24) (dot : FVec Ideal S24x256 .f32) (wsT wzT : FVec Ideal S192x256 .f32) (sz ls : Vec Ideal S8x128 .f32)
    (s : Fin 8) (cc : Fin 2) (l : Fin 128) :
    unitTerm (F := Ideal) t u dot wsT wzT sz ls (ix2 s (⟨128 * cc.val + l.val, by omega⟩ : Fin 256))
      = (dot (ix2 (⟨8 * t.val + s.val, by omega⟩ : Fin 24) (⟨128 * cc.val + l.val, by omega⟩ : Fin 256))
          - wzT (ix2 (⟨8 * u.val + s.val, by omega⟩ : Fin 192) (⟨128 * cc.val + l.val, by omega⟩ : Fin 256)) * sz (ix2 s l))
        * (wsT (ix2 (⟨8 * u.val + s.val, by omega⟩ : Fin 192) (⟨128 * cc.val + l.val, by omega⟩ : Fin 256)) * ls (ix2 s l)) := by
  rw [← dup_apply sz s cc l, ← dup_apply ls s cc l]
  pointwise [unitTerm]

/-- Adding arrays one after another is, at an index, adding the sum of the terms. -/
theorem foldl_addf (L : List (Fin 24)) (T : Fin 24 → FVec Ideal S8x256 .f32) (z : FVec Ideal S8x256 .f32) (y : S8x256.Idx) :
    L.foldl (fun a u => addf a (T u)) z y = z y + (L.map fun u => T u y).sum := by
  induction L generalizing z with
  | nil => simp
  | cons u L ih =>
    rw [List.foldl_cons, ih, List.map_cons, List.sum_cons, ← add_assoc]
    rfl

/-- The units are the numbers below 24, in order. -/
theorem units_eq : units = List.finRange 24 := by decide

/-- The partial rows: the units' terms, added. -/
theorem accY_apply (t : Fin 3) (w : Fin 6 → Fin 2 → Fin 4 → Vec Ideal S1x128x128 .i8) (wsT wzT : FVec Ideal S192x256 .f32)
    (lhs : Fin 24 → Vec Ideal S1x24x960 .bf16) (sz ls : Fin 24 → Vec Ideal S8x128 .f32) (y : S8x256.Idx) :
    accY (F := Ideal) t w wsT wzT lhs sz ls y
      = ∑ u : Fin 24, unitTerm (F := Ideal) t u (unitDot (unitRow u) (w (unitTile u)) (lhs u)) wsT wzT (sz u) (ls u) y := by
  unfold accY
  rw [foldl_addf, units_eq, ← Fin.sum_univ_def]
  have hz : (broadcast S8x256 (Scalar.ofBits (F := Ideal) .f32 0x00000000#32) : FVec Ideal S8x256 .f32) y = 0 := by
    show Ideal.ofBits FTy.f32 0x00000000#32 = 0
    simp [Ideal.ofBits, Ideal.ieee]
  rw [hz, zero_add]

/-- The last sum of a tile runs over its eight rows. -/
theorem tileY_apply (a : FVec Ideal S8x256 .f32) (l : Fin 256) :
    tileY (F := Ideal) a (ix3 (0 : Fin 1) (0 : Fin 1) l) = ∑ s : Fin 8, a (ix2 s l) := by
  pointwise [tileY]

/-- A unit's looked-up codes are the table sum of a weight group. -/
theorem lookU_dotG (cd : Fin 1536 → Fin 16 → ℤ) (w : Fin 4 → Fin 768 → BitVec 8) (g : Fin 192) :
    lookU (fun k e => cd ⟨8 * g.val + k.val, by omega⟩ e) (fun b p => w p ⟨4 * g.val + b.val, by omega⟩) = dotG cd w g := by
  unfold lookU dotG look
  refine Finset.sum_congr rfl fun p _ => congrArg (fun z : ℤ => z * 2 ^ p.val) (Finset.sum_congr rfl fun b _ => congrArg₂ (· + ·) ?_ ?_)
  · refine congrArg (fun q => cd q _) (Fin.ext ?_)
    show 8 * g.val + 2 * b.val = 2 * (4 * g.val + b.val)
    omega
  · refine congrArg (fun q => cd q _) (Fin.ext ?_)
    show 8 * g.val + (2 * b.val + 1) = 2 * (4 * g.val + b.val) + 1
    omega

/-- The output tile of token `t` and half `nt`, column by column: the outputs of the problem's own words. -/
theorem pieceV_eq (x : Vec Ideal S144x128 .bf16) (x1 : Vec Ideal S4x512x768 .i8) (x2 x3 : Vec Ideal S512x192 .f32) (t : Fin 3) (nt cc : Fin 2) (l : Fin 128) :
    pieceV x1 x2 x3 (lhsV x) (lsV x) (szV x) t nt (ix3 (0 : Fin 1) (0 : Fin 1) (⟨128 * cc.val + l.val, by omega⟩ : Fin 256))
      = outY (fun s => quads x ⟨48 * t.val + s.val, by omega⟩) (fun p j => x1 (ix3 p (⟨256 * nt.val + (128 * cc.val + l.val), by omega⟩ : Fin 512) j))
          (fun g => x2 (ix2 (⟨256 * nt.val + (128 * cc.val + l.val), by omega⟩ : Fin 512) g)) (fun g => x3 (ix2 (⟨256 * nt.val + (128 * cc.val + l.val), by omega⟩ : Fin 512) g)) := by
  unfold pieceV outY
  rw [tileY_apply, sum_rows 24 8 192 rfl]
  simp only [accY_apply, unitTerm_apply]
  refine (Finset.sum_comm).trans (Finset.sum_congr rfl fun u _ => Finset.sum_congr rfl fun s _ => ?_)
  have hr : (Rect.unit (s := S576x128) ![t.val * 192 + 8 * u.val, 0] S8x128.size (inb_row t u)).toLoadRect.idx (ix2 s l)
      = (ix2 (⟨192 * t.val + (8 * u.val + s.val), by omega⟩ : Fin 576) l : S576x128.Idx) := by
    funext c
    match c with
    | ⟨0, _⟩ => exact Fin.ext (by show t.val * 192 + 8 * u.val + 1 * s.val = 192 * t.val + (8 * u.val + s.val); omega)
    | ⟨1, _⟩ => exact Fin.ext (by show 0 + 1 * l.val = l.val; omega)
  have hsz : szV x ((Rect.unit (s := S576x128) ![t.val * 192 + 8 * u.val, 0] S8x128.size (inb_row t u)).toLoadRect.idx (ix2 s l))
      = ((sumG (code fun s => quads x ⟨48 * t.val + s.val, by omega⟩) ⟨8 * u.val + s.val, by omega⟩ : ℝ) : EReal) := by
    rw [hr]; exact szV_eq x t ⟨8 * u.val + s.val, by omega⟩ l
  have hls : lsV x ((Rect.unit (s := S576x128) ![t.val * 192 + 8 * u.val, 0] S8x128.size (inb_row t u)).toLoadRect.idx (ix2 s l))
      = gScale (quads x ⟨48 * t.val + (8 * u.val + s.val) / 4, by omega⟩) := by
    rw [hr, lsV_eq]
    refine congrArg (fun r => gScale (quads x r)) (Fin.ext ?_)
    show (192 * t.val + (8 * u.val + s.val)) / 4 = 48 * t.val + (8 * u.val + s.val) / 4
    omega
  have hpar : ∀ v : Vec Ideal S512x192 .f32, transpose S192x256 [1, 0] (fun y => v ((Rect.unit (s := S512x192) ![nt.val * 256, 0] S256x192.size (inb_par nt)).toLoadRect.idx y))
      transposes_S256x192_p1_0_S192x256 (ix2 (⟨8 * u.val + s.val, by omega⟩ : Fin 192) (⟨128 * cc.val + l.val, by omega⟩ : Fin 256))
      = v (ix2 (⟨256 * nt.val + (128 * cc.val + l.val), by omega⟩ : Fin 512) (⟨8 * u.val + s.val, by omega⟩ : Fin 192)) := fun v => by
    pointwise []
    refine congrArg v ?_
    funext c
    match c with
    | ⟨0, _⟩ => exact Fin.ext (by show nt.val * 256 + (128 * cc.val + l.val) = 256 * nt.val + (128 * cc.val + l.val); omega)
    | ⟨1, _⟩ => exact Fin.ext (by show 8 * u.val + s.val = 8 * u.val + s.val; rfl)
  have hdot : unitDot (F := Ideal) (unitRow u) (fun cc p y => x1 ((Rect.unit (s := S4x512x768) ![p.val, nt.val * 256 + cc.val * 128, (unitTile u).val * 128] S1x128x128.size (inb_plane nt (unitTile u) cc p)).toLoadRect.idx y))
      (fun y => lhsV x ((Rect.unit (s := S24x24x960) ![u.val, 0, 0] S1x24x960.size (inb_lhs u)).toLoadRect.idx y))
      (ix2 (⟨8 * t.val + s.val, by omega⟩ : Fin 24) (⟨128 * cc.val + l.val, by omega⟩ : Fin 256))
      = ((dotG (cdK x t) (fun p j => x1 (ix3 p (⟨256 * nt.val + (128 * cc.val + l.val), by omega⟩ : Fin 512) j)) ⟨8 * u.val + s.val, by omega⟩ : ℝ) : EReal) := by
    rw [unitDot_eq (unitRow u) _ _ (fun k e => cdK x t ⟨8 * (8 * u.val + s.val) + k.val, by omega⟩ e) (fun k => code_zero _ _) t s _ cc l]
    · refine congrArg (fun z : ℤ => ((z : ℝ) : EReal)) (Eq.trans (congrArg (lookU _) ?_) (lookU_dotG (cdK x t) (fun p j => x1 (ix3 p (⟨256 * nt.val + (128 * cc.val + l.val), by omega⟩ : Fin 512) j)) ⟨8 * u.val + s.val, by omega⟩))
      funext b p
      refine congrArg x1 ?_
      funext c
      match c with
      | ⟨0, _⟩ => exact Fin.ext (by show p.val + 1 * 0 = p.val; omega)
      | ⟨1, _⟩ => exact Fin.ext (by show nt.val * 256 + cc.val * 128 + 1 * l.val = 256 * nt.val + (128 * cc.val + l.val); omega)
      | ⟨2, _⟩ => exact Fin.ext (by show u.val / 4 * 128 + 1 * (4 * (8 * (u.val % 4) + s.val) + b.val) = 4 * (8 * u.val + s.val) + b.val; omega)
    · intro s' v b
      rw [← lhsV_eq x u t s s' v b]
      refine congrArg (lhsV x) ?_
      funext c
      match c with
      | ⟨0, _⟩ => exact Fin.ext (by show u.val + 1 * 0 = u.val; omega)
      | ⟨1, _⟩ => exact Fin.ext (by show 0 + 1 * (8 * t.val + s.val) = 8 * t.val + s.val; omega)
      | ⟨2, _⟩ => exact Fin.ext (by show 0 + 1 * (32 * v.val + (4 * s'.val + b.val)) = 32 * v.val + (4 * s'.val + b.val); omega)
  rw [hdot, hpar, hpar, hsz, hls]
  exact mul_comm _ _

/-- The output block, from the contents of the activations' block and of the other three: the outputs of the problem's own words. -/
def blockY (x : Vec Ideal S144x128 .bf16) (x1 : Vec Ideal S4x512x768 .i8) (x2 x3 : Vec Ideal S512x192 .f32) (t : Fin 3) (o : Fin 512) : EReal :=
  outY (fun s => quads x ⟨48 * t.val + s.val, by omega⟩) (fun p j => x1 (ix3 p o j)) (fun g => x2 (ix2 o g)) (fun g => x3 (ix2 o g))

/-- The block of y that a grid point stores, at an index. -/
theorem yV_eq (x : Vec Ideal S144x128 .bf16) (x1 : Vec Ideal S4x512x768 .i8) (x2 x3 : Vec Ideal S512x192 .f32) (y : S3x1x512.Idx) :
    yV x1 x2 x3 (lhsV x) (lsV x) (szV x) y = blockY x x1 x2 x3 (y 0) (y 2) := by
  refine View.canon_apply_of_pieces (Val := Elt Ideal) (fun y : S3x1x512.Idx => blockY x x1 x2 x3 (y 0) (y 2)) (yL x1 x2 x3 (lhsV x) (lsV x) (szV x)) ?_ y (y_cover _ _ _ _ _ _ y)
  intro p hp j
  obtain ⟨⟨t, nt⟩, _, rfl⟩ := List.mem_map.1 hp
  have h0 : (j 0).val < 1 := (j 0).isLt
  have h1 : (j 1).val < 1 := (j 1).isLt
  have h2 : (j 2).val < 256 := (j 2).isLt
  have ej : j = (ix3 (0 : Fin 1) (0 : Fin 1) (⟨128 * ((j 2).val / 128) + (j 2).val % 128, by omega⟩ : Fin 256) : S1x1x256.Idx) := by
    funext c
    match c with
    | ⟨0, _⟩ => exact Fin.ext (by show (j 0).val = 0; omega)
    | ⟨1, _⟩ => exact Fin.ext (by show (j 1).val = 0; omega)
    | ⟨2, _⟩ => exact Fin.ext (by show (j 2).val = 128 * ((j 2).val / 128) + (j 2).val % 128; omega)
  have e0 : ((Rect.unit (s := S3x1x512) ![t.val, 0, nt.val * 256] S1x1x256.size (inb_out t nt)).emb j 0 : Fin 3) = t := Fin.ext (by
    show t.val + 1 * (j 0).val = t.val
    omega)
  have e2 : ((Rect.unit (s := S3x1x512) ![t.val, 0, nt.val * 256] S1x1x256.size (inb_out t nt)).emb j 2 : Fin 512)
      = (⟨256 * nt.val + (128 * ((j 2).val / 128) + (j 2).val % 128), by omega⟩ : Fin 512) := Fin.ext (by
    show nt.val * 256 + 1 * (j 2).val = 256 * nt.val + (128 * ((j 2).val / 128) + (j 2).val % 128)
    omega)
  dsimp only
  rw [e0, e2]
  exact (congrArg (pieceV x1 x2 x3 (lhsV x) (lsV x) (szV x) t nt) ej).trans
    (pieceV_eq x x1 x2 x3 t nt ⟨(j 2).val / 128, by omega⟩ ⟨(j 2).val % 128, Nat.mod_lt _ (by decide)⟩)

end Cert.KernelIdeal.Hand

end
-- ==== Proof.KernelValue.lean ====
/- The arrays at the end of the kernel's run: the results in the problem's own words. -/
module

public import proofs.«01_k».proof.Proof.IdealFrame
public import proofs.«01_k».proof.Proof.KernelY
public import Idealize.ShloMosaic.Lib.Pipeline.ValueKit

@[expose] public section

set_option maxRecDepth 16384

noncomputable section

namespace Cert.KernelIdeal.Hand

open Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations as launched. -/
abbrev aX (c : Dev nD) : Vec Ideal S3x1x6144 .bf16 := m ((c : Thread nD τ).loc main_arg0)
/-- The planes as launched. -/
abbrev aW (c : Dev nD) : Vec Ideal S4x24576x768 .i8 := m ((c : Thread nD τ).loc main_arg1)
/-- The weight scales as launched. -/
abbrev aS (c : Dev nD) : Vec Ideal S24576x192 .f32 := m ((c : Thread nD τ).loc main_arg2)
/-- The weight zero points as launched. -/
abbrev aZ (c : Dev nD) : Vec Ideal S24576x192 .f32 := m ((c : Thread nD τ).loc main_arg3)

/-- The quads of the activations of token `t`, scale group `s`. -/
def quadsA (x : Vec Ideal S3x1x6144 .bf16) (t : Fin 3) (s : Fin 48) : Fin 32 → Fin 4 → EReal :=
  fun q i => x (ix3 t (0 : Fin 1) (⟨128 * s.val + (4 * q.val + i.val), by omega⟩ : Fin 6144))

/-- The window of the activations stays in place. -/
theorem idx0 : ∀ (t : Fin cfg0.N) (a : Fin 2), win0_0.index t a = 0 := by decide +kernel
/-- The window of the weight planes moves with the grid point, along the outputs. -/
theorem idx1 : ∀ (t : Fin cfg0.N) (a : Fin 3), win0_1.index t a = (![0, t.val, 0] : Fin 3 → Nat) a := by decide +kernel
/-- The window of the weight scales moves with the grid point. -/
theorem idx2 : ∀ (t : Fin cfg0.N) (a : Fin 2), win0_2.index t a = (![t.val, 0] : Fin 2 → Nat) a := by decide +kernel
/-- The window of the zero points moves with the grid point. -/
theorem idx3 : ∀ (t : Fin cfg0.N) (a : Fin 2), win0_3.index t a = (![t.val, 0] : Fin 2 → Nat) a := by decide +kernel
/-- The window of y moves with the grid point. -/
theorem idx4 : ∀ (t : Fin cfg0.N) (a : Fin 3), win0_4.index t a = (![0, 0, t.val] : Fin 3 → Nat) a := by decide +kernel

/-- The host's reshape of the activations. -/
theorem V_x (c : Dev nD) : V m c main_v0 = shapeCast S144x128 (aX m c) shapeCasts_S3x1x6144_S144x128 := by
  show StableHlo.after (List.flatten [hostOps0]) (fun b => m (c, b)) (Proc.devRef .tc main_v0) = _
  simp only [hostOps0, List.flatten_cons, List.flatten_nil, List.append_nil]
  after_results_simp
  rfl

/-- The activations' block: scale group `48 * t + s` of the array, in a row. -/
theorem xB_quads (c : Dev nD) (t : Fin 3) (s : Fin 48) : quads (xB m c) ⟨48 * t.val + s.val, by omega⟩ = quadsA (aX m c) t s := by
  funext q i
  show xB m c (ix2 (⟨48 * t.val + s.val, by omega⟩ : Fin 144) (⟨4 * q.val + i.val, by omega⟩ : Fin 128)) = _
  have e : xB m c (ix2 (⟨48 * t.val + s.val, by omega⟩ : Fin 144) (⟨4 * q.val + i.val, by omega⟩ : Fin 128))
      = V m c main_v0 (ix2 (⟨48 * t.val + s.val, by omega⟩ : Fin 144) (⟨4 * q.val + i.val, by omega⟩ : Fin 128)) := by
    have h0 : win0_0.index pt0 0 = 0 := idx0 pt0 0
    have h1 : win0_0.index pt0 1 = 0 := idx0 pt0 1
    blk_ext [xB, iblk, h0, h1]
  rw [e, V_x]
  pointwise [quadsA]
  refine congrArg (fun k => aX m c (ix3 t (0 : Fin 1) k)) (Fin.ext ?_)
  show (48 * t.val + s.val) % 48 * 128 + (4 * q.val + i.val) = 128 * s.val + (4 * q.val + i.val)
  omega

/-- The row of the arrays that block `t` holds at its row `o`. -/
def row (t : Fin cfg0.N) (o : Fin 512) : Fin 24576 := ⟨512 * t.val + o.val, by have : t.val < 48 := Nat.lt_of_lt_of_eq t.isLt N_0; omega⟩

/-- A block of the planes. -/
theorem iblk1 (c : Dev nD) (t : Fin cfg0.N) (p : Fin 4) (o : Fin 512) (j : Fin 768) :
    iblk m c 1 t (ix3 p o j) = aW m c (ix3 p (row t o) j) := by
  have h0 : win0_1.index t 0 = 0 := idx1 t 0
  have h1 : win0_1.index t 1 = t.val := idx1 t 1
  have h2 : win0_1.index t 2 = 0 := idx1 t 2
  have e : iblk m c 1 t (ix3 p o j) = V m c main_arg1 (ix3 p (row t o) j) := by
    blk_ext [iblk, row, h0, h1, h2]
  exact e.trans (congrFun (V_main_arg1 m c) _)

/-- A block of the weight scales. -/
theorem iblk2 (c : Dev nD) (t : Fin cfg0.N) (o : Fin 512) (g : Fin 192) : iblk m c 2 t (ix2 o g) = aS m c (ix2 (row t o) g) := by
  have h0 : win0_2.index t 0 = t.val := idx2 t 0
  have h1 : win0_2.index t 1 = 0 := idx2 t 1
  have e : iblk m c 2 t (ix2 o g) = V m c main_arg2 (ix2 (row t o) g) := by
    blk_ext [iblk, row, h0, h1]
  exact e.trans (congrFun (V_main_arg2 m c) _)

/-- A block of the weight zero points. -/
theorem iblk3 (c : Dev nD) (t : Fin cfg0.N) (o : Fin 512) (g : Fin 192) : iblk m c 3 t (ix2 o g) = aZ m c (ix2 (row t o) g) := by
  have h0 : win0_3.index t 0 = t.val := idx3 t 0
  have h1 : win0_3.index t 1 = 0 := idx3 t 1
  have e : iblk m c 3 t (ix2 o g) = V m c main_arg3 (ix2 (row t o) g) := by
    blk_ext [iblk, row, h0, h1]
  exact e.trans (congrFun (V_main_arg3 m c) _)

/-- The outputs of the problem's own words, from the arrays as launched. -/
def goalY (c : Dev nD) (t : Fin 3) (o : Fin 24576) : EReal :=
  outY (quadsA (aX m c) t) (fun p j => aW m c (ix3 p o j)) (fun g => aS m c (ix2 o g)) (fun g => aZ m c (ix2 o g))

/-- The block of y at a grid point holds the outputs of the whole, from that block on. -/
theorem blockY_eq (c : Dev nD) (t : Fin cfg0.N) (k : Fin 3) (o : Fin 512) :
    blockY (xB m c) (iblk m c 1 t) (iblk m c 2 t) (iblk m c 3 t) k o = goalY m c k (row t o) := by
  unfold blockY goalY
  have h0 : (fun s : Fin 48 => quads (xB m c) ⟨48 * k.val + s.val, by omega⟩) = quadsA (aX m c) k := funext fun s => xB_quads m c k s
  rw [h0]
  have h1 : (fun (p : Fin 4) (j : Fin 768) => iblk m c 1 t (ix3 p o j)) = fun p j => aW m c (ix3 p (row t o) j) := funext₂ fun p j => iblk1 m c t p o j
  have h2 : (fun g : Fin 192 => iblk m c 2 t (ix2 o g)) = fun g => aS m c (ix2 (row t o) g) := funext fun g => iblk2 m c t o g
  have h3 : (fun g : Fin 192 => iblk m c 3 t (ix2 o g)) = fun g => aZ m c (ix2 (row t o) g) := funext fun g => iblk3 m c t o g
  exact congr (congr (congrArg (outY (quadsA (aX m c) k)) h1) h2) h3

/-- The first result's array at the end of the run. -/
theorem final_y (c : Dev nD) : (dats m 0 c).arrAt 4 cfg0.N = fun y : S3x1x24576.Idx => goalY m c (y 0) (y 2) := by
  refine (dats m 0 c).arrAt_eq_of_covers 4 _ (by decide +kernel) fun t hf y => ?_
  blk_simp
  rw [after0_4, yV_eq]
  refine (blockY_eq m c t _ _).trans ?_
  have h0 : win0_4.index t 0 = 0 := idx4 t 0
  have h2 : win0_4.index t 2 = t.val := idx4 t 2
  refine congrArg₂ (goalY m c) (Fin.ext ?_) (Fin.ext ?_)
  · blk_simp [h0]
  · blk_simp [h2, row]
    show 512 * t.val + (y 2).val = t.val * 512 + (y 2).val
    omega

/-- The codes' array at the end of the run. -/
theorem final_codes (c : Dev nD) : (dats m 0 c).arrAt 5 cfg0.N = codesV (xB m c) := by
  refine (dats m 0 c).arrAt_eq_of_after_last 5 ⟨47, by rw [show cfg0.N = 48 from N_0]; decide⟩ (by decide +kernel) _ fun j => ?_
  exact congrFun (after0_5 m c _) j

/-- The scales' array at the end of the run. -/
theorem final_scales (c : Dev nD) : (dats m 0 c).arrAt 6 cfg0.N = scalesV (xB m c) := by
  refine (dats m 0 c).arrAt_eq_of_after_last 6 ⟨47, by rw [show cfg0.N = 48 from N_0]; decide⟩ (by decide +kernel) _ fun j => ?_
  exact congrFun (after0_6 m c _) j

/-- The codes, before the host's reshape. -/
theorem codesV_eq (x : Vec Ideal S144x128 .bf16) (r : Fin 144) (k : Fin 512) : codesV x (ix2 r k) = Ideal.fptosi 8 (gCode (quads x r) k) := by
  have h := View.canon_apply_of_pieces (Val := Elt Ideal) (fun y : S144x512.Idx => tabCodeI (F := Ideal) x y) (codesL x) (fun p hp j => by
    obtain rfl := List.mem_singleton.1 hp
    refine congrArg (tabCodeI (F := Ideal) x) ?_
    funext a
    match a with
    | ⟨0, _⟩ => exact Fin.ext (by show (j 0).val = 0 + 1 * (j 0).val; omega)
    | ⟨1, _⟩ => exact Fin.ext (by show (j 1).val = 0 + 1 * (j 1).val; omega)) (ix2 r k) (codes_cover x _)
  exact h.trans (tabCodeI_eq x r k)

/-- The scales stored. -/
theorem scalesV_eq (x : Vec Ideal S144x128 .bf16) (y : S3x1x48.Idx) :
    scalesV x y = gScale (quads x ⟨48 * (y 0).val + (y 2).val, by have h0 : (y 0).val < 3 := (y 0).isLt; have h2 : (y 2).val < 48 := (y 2).isLt; omega⟩) := by
  refine View.canon_apply_of_pieces (Val := Elt Ideal) (fun y : S3x1x48.Idx => gScale (quads x ⟨48 * (y 0).val + (y 2).val, by have h0 : (y 0).val < 3 := (y 0).isLt; have h2 : (y 2).val < 48 := (y 2).isLt; omega⟩))
    (scalesL x) ?_ y (scales_cover x y)
  intro p hp j
  obtain ⟨t, _, rfl⟩ := List.mem_map.1 hp
  have h0 : (j 0).val < 1 := (j 0).isLt
  have h2 : (j 2).val < 48 := (j 2).isLt
  have ej : j = (ix3 (j 0 : Fin 1) (j 1 : Fin 1) (j 2 : Fin 48) : S1x1x48.Idx) := by
    funext a
    match a with
    | ⟨0, _⟩ => rfl
    | ⟨1, _⟩ => rfl
    | ⟨2, _⟩ => rfl
  refine ((congrArg (scaleRow (F := Ideal) x t) ej).trans (scaleRow_eq x t _ _ _)).trans ?_
  refine congrArg (fun r => gScale (quads x r)) (Fin.ext ?_)
  show 48 * t.val + (j 2).val = 48 * (t.val + 1 * (j 0).val) + (0 + 1 * (j 2).val)
  omega

/-- The codes of the problem's own words. -/
def goalCodes (x : Vec Ideal S3x1x6144 .bf16) (t : Fin 3) (q : Fin 1536) (e : Fin 16) : BitVec 8 :=
  Ideal.fptosi 8 (gCode (quadsA x t ⟨q.val / 32, by omega⟩) ⟨16 * (q.val % 32) + e.val, by omega⟩)

/-- The host's reshape of the codes. -/
theorem codes_reshape (c : Dev nD) (y : S3x1x1536x16.Idx) :
    shapeCast S3x1x1536x16 (codesV (xB m c)) shapeCasts_S144x512_S3x1x1536x16 y = goalCodes (aX m c) (y 0) (y 2) (y 3) := by
  obtain ⟨t, q, e, rfl⟩ : ∃ (t : Fin 3) (q : Fin 1536) (e : Fin 16), y = (ix4 t (0 : Fin 1) q e : S3x1x1536x16.Idx) :=
    ⟨y 0, y 2, y 3, by
      funext a
      match a with
      | ⟨0, _⟩ => rfl
      | ⟨1, _⟩ => exact Fin.ext (by have h1 : (y 1).val < 1 := (y 1).isLt; show (y 1).val = 0; omega)
      | ⟨2, _⟩ => rfl
      | ⟨3, _⟩ => rfl⟩
  show _ = goalCodes (aX m c) t q e
  have h : shapeCast S3x1x1536x16 (codesV (xB m c)) shapeCasts_S144x512_S3x1x1536x16 (ix4 t (0 : Fin 1) q e)
      = codesV (xB m c) (ix2 (⟨48 * t.val + q.val / 32, by omega⟩ : Fin 144) (⟨16 * (q.val % 32) + e.val, by omega⟩ : Fin 512)) := by
    generalize codesV (xB m c) = Q
    pointwise []
    refine congrArg Q (congrArg₂ (fun (a : Fin 144) (b : Fin 512) => (ix2 a b : S144x512.Idx)) (Fin.ext ?_) (Fin.ext ?_))
    · show t.val * 48 + q.val / 32 = 48 * t.val + q.val / 32
      omega
    · show q.val % 32 * 16 + e.val = 16 * (q.val % 32) + e.val
      omega
  rw [h, codesV_eq]
  unfold goalCodes
  rw [← xB_quads m c t ⟨q.val / 32, by omega⟩]

/-- The run: the three results in the problem's own words, the arguments unchanged. -/
theorem run_value : θ_run defs (onTc (τ := τ) (main (F := Ideal))) ⟨m, fun _ => 0, ρ⟩ (fun r => ∀ c : Dev nD,
      r.2.mem ((c.tc : Thread nD τ).loc main_v1_0) = (fun y : S3x1x24576.Idx => goalY m c (y 0) (y 2))
      ∧ r.2.mem ((c.tc : Thread nD τ).loc main_v2) = (fun y : S3x1x1536x16.Idx => goalCodes (aX m c) (y 0) (y 2) (y 3))
      ∧ r.2.mem ((c.tc : Thread nD τ).loc main_v1_2) = (fun y : S3x1x48.Idx => gScale (quadsA (aX m c) (y 0) (y 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, h.2 c⟩) (θ_run_and (run_main m ρ) (unchanged m ρ))
  · exact (h.1.out_eq c 4).trans (final_y m c)
  · refine ((h.1 c).2 main_v2 (by decide)).trans ?_
    have e : Pipeline.afterTail₀ cfgs (dats m) 0 (V0 m) [hostOps1] c main_v2 = shapeCast S3x1x1536x16 (codesV (xB m c)) shapeCasts_S144x512_S3x1x1536x16 := by
      unfold Pipeline.afterTail₀
      simp only [hostOps1, List.flatten_cons, List.flatten_nil, List.append_nil]
      after_results_simp
      rw [← final_codes m c]
      have hw := Pipeline.withArrays_arr spec0 (by decide) c (V0 m c) (fun w => (dats m 0 c).arrAt w cfg0.N) 5
      exact congrArg (fun z => shapeCast S3x1x1536x16 z shapeCasts_S144x512_S3x1x1536x16) hw
    rw [e]
    funext y
    exact codes_reshape m c y
  · refine (h.1.out_eq c 6).trans ((final_scales m c).trans ?_)
    funext y
    rw [scalesV_eq]
    exact congrArg gScale (xB_quads m c (y 0) (y 2))

end Cert.KernelIdeal.Hand

end
-- ==== Proof.RefCodes.lean ====
/- The reference's subset sums, scales and codes, at an index: they are the problem's. -/
module

public import proofs.«01_k».proof.Proof.Spec
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Read Cert.Spec Idealize.ShloMosaic Idealize.ShloMosaic.TcCoe Idealize.ShloMosaic.StableHlo

/-- The reference's selection word is the entry's bit. -/
theorem sel10 : ∀ (e : Fin 16) (i : Fin 4), val_main_v10 (F := Ideal) (ix2 e i : S16x4.Idx) = BitVec.ofNat 32 (e.val.testBit i.val).toNat := by decide +kernel
/-- The reference's selection factor keeps or drops a value by the entry's bit. -/
theorem sel11_mul (e : Fin 16) (i : Fin 4) (v : EReal) : val_main_v11 (F := Ideal) (ix2 e i : S16x4.Idx) * v = bitv e.val i.val v := by
  have h : val_main_v11 (F := Ideal) (ix2 e i : S16x4.Idx) = ((((BitVec.ofNat 32 (e.val.testBit i.val).toNat).toInt : ℝ)) : EReal) := by
    rw [← sel10]; rfl
  rw [h]
  cases h : e.val.testBit i.val <;> simp [bitv, h]

set_option maxHeartbeats 1000000 in
/-- The reference's table at a quad and entry is the subset sum of the quad's activations. -/
theorem t_apply (x : Vec Ideal S3x1x6144 .bf16) (t : Fin 3) (g : Fin 1536) (e : Fin 16) :
   val_main_v44 x (ix4 t (0 : Fin 1) g e) = tval (fun i => x (ix3 t (0 : Fin 1) (⟨4 * g.val + i.val, by omega⟩ : Fin 6144))) e.val := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v1, val_main_v0, val_main_cst]
  rw [sel11_mul, sel11_mul, sel11_mul, sel11_mul]
  simp only [Nat.mul_comm]; rfl

/-- The activations of a scale group of a token, by quads. -/
def quads (x : Vec Ideal S3x1x6144 .bf16) (t : Fin 3) (s : Fin 48) : Fin 32 → Fin 4 → EReal :=
  fun q i => x (ix3 t (0 : Fin 1) (⟨128 * s.val + 4 * q.val + i.val, by omega⟩ : Fin 6144))

/-- The reference's table, by scale group. -/
theorem v44_eq (x : Vec Ideal S3x1x6144 .bf16) (t : Fin 3) (s : Fin 48) (q : Fin 32) (e : Fin 16) (h : s.val * 32 + q.val < 1536) :
    val_main_v44 x (ix4 t (0 : Fin 1) (⟨s.val * 32 + q.val, h⟩ : Fin 1536) e) = gT (quads x t s) ⟨16 * q.val + e.val, by omega⟩ := by
  rw [t_apply]; unfold gT quads
  have h1 : (16 * q.val + e.val) / 16 = q.val := by omega
  have h2 : (16 * q.val + e.val) % 16 = e.val := by omega
  simp only [h1, h2]
  congr 1; funext i; congr 2; apply Fin.ext; simp only; omega

set_option maxHeartbeats 1000000 in
/-- The reference's largest absolute value of a group. -/
theorem v47_eq (x : Vec Ideal S3x1x6144 .bf16) (t : Fin 3) (s : Fin 48) :
    val_main_v47 (F := Ideal) x (ix3 t (0 : Fin 1) s) = gMax (quads x t s) := by
  pointwise [val_main_v47, val_main_v46, val_main_v45, val_main_cst_0]
  unfold gMax
  refine eq_of_forall_ge_iff fun c => ?_
  rw [Finset.fold_max_le, Finset.fold_max_le]
  refine and_congr Iff.rfl ⟨fun h k _ => ?_, fun h i hi => ?_⟩
  · have := h (ix5 t (0 : Fin 1) s (⟨k.val / 16, by omega⟩ : Fin 32) (⟨k.val % 16, by omega⟩ : Fin 16)) (by
      rw [Finset.mem_filter]; refine ⟨Finset.mem_univ _, ?_⟩; funext a; fin_cases a <;> rfl)
    refine le_trans (le_of_eq ?_) this
    congr 1
    have hk : (⟨16 * (k.val / 16) + k.val % 16, by omega⟩ : Fin 512) = k := Fin.ext (by simp only; omega)
    have h2 := v44_eq x t s ⟨k.val / 16, by omega⟩ ⟨k.val % 16, by omega⟩ (by simp only; omega)
    simp only [hk] at h2
    exact h2.symm
  · have hd := (Finset.mem_filter.1 hi).2
    have e0 : i 0 = t := congrFun hd 0
    have e2 : i 2 = s := congrFun hd 2
    have := h (⟨16 * (i 3).val + (i 4).val, by have : (i 3).val < 32 := (i 3).isLt; have : (i 4).val < 16 := (i 4).isLt; omega⟩ : Fin 512) (Finset.mem_univ _)
    refine le_trans (le_of_eq ?_) this
    congr 1
    subst e0; subst e2
    exact v44_eq x (i 0) (i 2) (i 3) (i 4) _

set_option maxHeartbeats 1000000 in
/-- The reference's scales. -/
theorem v52_eq (x : Vec Ideal S3x1x6144 .bf16) (t : Fin 3) (s : Fin 48) :
    val_main_v52 (F := Ideal) x (ix3 t (0 : Fin 1) s) = gScale (quads x t s) := by
  pointwise [val_main_v52, val_main_v51, val_main_v50, val_main_v49, val_main_v48, val_main_cst_1, val_main_cst_2, val_main_cst_3, val_main_call0_v0, val_main_call0_v1, v47_eq]
  unfold gScale
  congr 1; exact Ideal.ofBits_one_f32

set_option maxHeartbeats 1000000 in
/-- The reference's codes, before rounding to integers. -/
theorem v57_eq (x : Vec Ideal S3x1x6144 .bf16) (t : Fin 3) (s : Fin 48) (q : Fin 32) (e : Fin 16) :
    val_main_v57 (F := Ideal) x (ix5 t (0 : Fin 1) s q e) = gCode (quads x t s) ⟨16 * q.val + e.val, by omega⟩ := by
  pointwise [val_main_v57, val_main_call2_v4, val_main_call2_v3, val_main_call2_v2, val_main_call2_v1, val_main_call2_v0, val_main_cst_4, val_main_cst_5, val_main_v56, val_main_v55, val_main_v54, val_main_v53, val_main_v45, v52_eq]
  rw [v44_eq]; rfl

set_option maxHeartbeats 1000000 in
/-- The reference's codes. -/
theorem v60_eq (x : Vec Ideal S3x1x6144 .bf16) (t : Fin 3) (g : Fin 1536) (e : Fin 16) :
    val_main_v60 (F := Ideal) x (ix4 t (0 : Fin 1) g e) = Ideal.fptosi 8 (gCode (quads x t ⟨g.val / 32, by omega⟩) ⟨16 * (g.val % 32) + e.val, by omega⟩) := by
  have h : val_main_v60 (F := Ideal) x (ix4 t (0 : Fin 1) g e) = val_main_v59 (F := Ideal) x (ix5 t (0 : Fin 1) (⟨g.val / 32, by omega⟩ : Fin 48) (⟨g.val % 32, by omega⟩ : Fin 32) e) := by
    pointwise [val_main_v60]
  rw [h, ← trunci_code, ← v57_eq x t ⟨g.val / 32, by omega⟩ ⟨g.val % 32, by omega⟩ e]
  rfl

end Cert.ReferenceIdeal.Hand

end
-- ==== Proof.RefY.lean ====
/- The reference's first result, at an index: the problem's. -/
module

public import proofs.«01_k».proof.Proof.RefCodes

@[expose] public section

set_option maxRecDepth 16384

noncomputable section

namespace Cert.ReferenceIdeal.Hand

open Cert.ReferenceIdeal Cert.ReferenceIdeal.Gen Cert.ReferenceIdeal.Read Cert.Spec Idealize.ShloMosaic Idealize.ShloMosaic.TcCoe Idealize.ShloMosaic.StableHlo

variable (x : Vec Ideal S3x1x6144 .bf16) (w : (⟨S4x24576x768, .i8⟩ : BufTy).Contents (Elt Ideal)) (ws wz : Vec Ideal S24576x192 .f32)

/-- A wrapping sum of words of integers is the word of their sum. -/
theorem fold_ofInt {ι : Type} (s : Finset ι) (f : ι → ℤ) :
    s.fold (IntOp.addi (w := 32)) 0#32 (fun i => BitVec.ofInt 32 (f i)) = BitVec.ofInt 32 (∑ i ∈ s, f i) := by
  classical
  induction s using Finset.induction_on with
  | empty => rfl
  | insert a s ha ih =>
    rw [Finset.fold_insert ha, Finset.sum_insert ha, ih, BitVec.ofInt_add]; rfl

/-- An integer of 32 bits' range is read back from its word. -/
theorem toInt_small (n : ℤ) (h0 : -2147483648 ≤ n) (h1 : n < 2147483648) : (BitVec.ofInt 32 n).toInt = n := by
  rw [BitVec.toInt_ofInt]; simp [Int.bmod]; omega

/-- The reference's codes, by quads. -/
theorem v60_code (t : Fin 3) (Q : Fin 1536) (e : Fin 16) :
    (val_main_v60 (F := Ideal) x (ix4 t (0 : Fin 1) Q e)).signExtend 32 = BitVec.ofInt 32 (code (quads x t) Q e) := by
  rw [v60_eq]; rfl

/-- The gather at an index whose start words are coordinates. -/
theorem gather_at {α : Type} (y : S3x1x768x16.Idx → α) (idx : IVec S4x24576x768x2 32) (t : Fin 3) (p : Fin 4) (o : Fin 24576) (j : Fin 768) (n : Fin 16)
    (h0 : idx (ix4 p o j (0 : Fin 2)) = BitVec.ofNat 32 j.val) (h1 : idx (ix4 p o j (1 : Fin 2)) = BitVec.ofNat 32 n.val) :
    Host.gather gather_S3x1x768x16_S4x24576x768x2_S3x1x4x24576x768_01_23_n_n_23_3_3111 y idx (ix5 t (0 : Fin 1) p o j) = y (ix4 t (0 : Fin 1) j n) := by
  unfold Host.gather
  congr 1
  generalize hd : gather_S3x1x768x16_S4x24576x768x2_S3x1x4x24576x768_01_23_n_n_23_3_3111 = d
  have e2 : (d.siIdx (ix5 t (0 : Fin 1) p o j) ⟨0, by subst hd; decide⟩) = ix4 p o j (0 : Fin 2) := by
    subst hd; funext b; refine Fin.ext ?_; fin_cases b <;> rfl
  have e3 : (d.siIdx (ix5 t (0 : Fin 1) p o j) ⟨1, by subst hd; decide⟩) = ix4 p o j (1 : Fin 2) := by
    subst hd; funext b; refine Fin.ext ?_; fin_cases b <;> rfl
  subst hd
  have hj : (BitVec.ofNat 32 j.val).toInt.toNat = j.val := by
    rw [BitVec.toInt_eq_toNat_of_lt (by rw [BitVec.toNat_ofNat]; omega), BitVec.toNat_ofNat]; omega
  have hn : (BitVec.ofNat 32 n.val).toInt.toNat = n.val := by
    rw [BitVec.toInt_eq_toNat_of_lt (by rw [BitVec.toNat_ofNat]; omega), BitVec.toNat_ofNat]; omega
  funext a; refine Fin.ext ?_
  fin_cases a
  · show 0 + 0 + t.val = t.val
    omega
  · rfl
  · show min ((idx (GatherDims.siIdx _ _ ⟨0, _⟩)).toInt.toNat) 767 + 0 + 0 = j.val
    rw [e2, h0, hj]; omega
  · show min ((idx (GatherDims.siIdx _ _ ⟨1, _⟩)).toInt.toNat) 15 + 0 + 0 = n.val
    rw [e3, h1, hn]; omega

/-- The row numbers of the first lookup. -/
theorem iota768 : ∀ j : Fin 768, val_main_v74 (F := Ideal) (ix1 j : S768.Idx) = BitVec.ofNat 32 j.val := by decide +kernel
/-- The row numbers of the second lookup. -/
theorem iota768' : ∀ j : Fin 768, val_main_v91 (F := Ideal) (ix1 j : S768.Idx) = BitVec.ofNat 32 j.val := by decide +kernel
/-- The first lookup's entry number is the byte's low nibble. -/
theorem low_word : ∀ b : BitVec 8, Scalar.select (IntOp.cmpi CmpIPredicate.slt (IntOp.andi (b.setWidth 32) 15#32) 0#32) (IntOp.addi (IntOp.andi (b.setWidth 32) 15#32) 16#32) (IntOp.andi (b.setWidth 32) 15#32) = BitVec.ofNat 32 (lo b).val := by decide +kernel
/-- The second lookup's entry number is the byte's high nibble. -/
theorem high_word : ∀ b : BitVec 8, Scalar.select (IntOp.cmpi CmpIPredicate.slt (IntOp.shrsi ArithUnit.host (b.setWidth 32) 4#32) 0#32) (IntOp.addi (IntOp.shrsi ArithUnit.host (b.setWidth 32) 4#32) 16#32) (IntOp.shrsi ArithUnit.host (b.setWidth 32) 4#32) = BitVec.ofNat 32 (hi b).val := by decide +kernel

/-- The first lookup's row is the byte's number. -/
theorem v83_0 (p : Fin 4) (o : Fin 24576) (j : Fin 768) : val_main_v83 (F := Ideal) w (ix4 p o j (0 : Fin 2)) = BitVec.ofNat 32 j.val := by
  rw [← iota768]
  pointwise [val_main_v83, val_main_v81, val_main_v80]
/-- The first lookup's column is the byte's low nibble. -/
theorem v83_1 (p : Fin 4) (o : Fin 24576) (j : Fin 768) : val_main_v83 (F := Ideal) w (ix4 p o j (1 : Fin 2)) = BitVec.ofNat 32 (lo (w (ix3 p o j))).val := by
  rw [← low_word]
  pointwise [val_main_v83, val_main_v82, val_main_v79, val_main_v78, val_main_v77, val_main_v76, val_main_v75, val_main_v63, val_main_v62, val_main_v61, val_main_c_6, val_main_c_10, val_main_c_11]
/-- The second lookup's row is the byte's number. -/
theorem v100_0 (p : Fin 4) (o : Fin 24576) (j : Fin 768) : val_main_v100 (F := Ideal) w (ix4 p o j (0 : Fin 2)) = BitVec.ofNat 32 j.val := by
  rw [← iota768']
  pointwise [val_main_v100, val_main_v98, val_main_v97]
/-- The second lookup's column is the byte's high nibble. -/
theorem v100_1 (p : Fin 4) (o : Fin 24576) (j : Fin 768) : val_main_v100 (F := Ideal) w (ix4 p o j (1 : Fin 2)) = BitVec.ofNat 32 (hi (w (ix3 p o j))).val := by
  rw [← high_word]
  pointwise [val_main_v100, val_main_v99, val_main_v96, val_main_v95, val_main_v94, val_main_v93, val_main_v92, val_main_v65, val_main_v64, val_main_v61, val_main_c_7, val_main_c_14, val_main_c_15]

/-- What one byte of one plane looks up. -/
theorem v104_eq (t : Fin 3) (p : Fin 4) (o : Fin 24576) (j : Fin 768) :
    val_main_v104 (F := Ideal) x w (ix5 t (0 : Fin 1) p o j) = BitVec.ofInt 32 (look (code (quads x t)) j (w (ix3 p o j))) := by
  have h69 : ∀ n : Fin 16, val_main_v69 (F := Ideal) x (ix4 t (0 : Fin 1) j n) = val_main_v60 (F := Ideal) x (ix4 t (0 : Fin 1) (⟨2 * j.val, by omega⟩ : Fin 1536) n) := fun n => by
    pointwise [val_main_v69, val_main_v68, val_main_v66]
    simp only [Nat.mul_comm]
  have h86 : ∀ n : Fin 16, val_main_v86 (F := Ideal) x (ix4 t (0 : Fin 1) j n) = val_main_v60 (F := Ideal) x (ix4 t (0 : Fin 1) (⟨2 * j.val + 1, by omega⟩ : Fin 1536) n) := fun n => by
    pointwise [val_main_v86, val_main_v85, val_main_v66]
    simp only [Nat.mul_comm]
  unfold look
  rw [BitVec.ofInt_add, ← v60_code, ← v60_code, ← h69, ← h86,
    ← gather_at (val_main_v69 (F := Ideal) x) (val_main_v83 (F := Ideal) w) t p o j (lo (w (ix3 p o j))) (v83_0 w p o j) (v83_1 w p o j),
    ← gather_at (val_main_v86 (F := Ideal) x) (val_main_v100 (F := Ideal) w) t p o j (hi (w (ix3 p o j))) (v100_0 w p o j) (v100_1 w p o j)]
  rfl

/-- The sum over the four bytes of a weight group. -/
theorem v106_eq (t : Fin 3) (p : Fin 4) (o : Fin 24576) (g : Fin 192) :
    val_main_v106 (F := Ideal) x w (ix5 t (0 : Fin 1) p o g)
      = BitVec.ofInt 32 (∑ b : Fin 4, look (code (quads x t)) ⟨4 * g.val + b.val, by omega⟩ (w (ix3 p o (⟨4 * g.val + b.val, by omega⟩ : Fin 768)))) := by
  rw [← fold_ofInt]
  pointwise [val_main_v106, val_main_v105, val_main_c_16]
  have hs : (Finset.univ.filter fun i => reducesTo_S3x1x4x24576x192x4_S3x1x4x24576x192_d5.drop i = ix5 t (0 : Fin 1) p o g)
      = Finset.univ.map ⟨fun k : Fin 4 => (ix6 t (0 : Fin 1) p o g k : S3x1x4x24576x192x4.Idx), fun a b h => congrFun h 5⟩ := by
    ext i
    rw [Finset.mem_filter, Finset.mem_map]
    constructor
    · rintro ⟨_, h⟩
      refine ⟨i 5, Finset.mem_univ _, ?_⟩
      have e0 : i 0 = t := congrFun h 0
      have e1 : i 1 = (0 : Fin 1) := congrFun h 1
      have e2 : i 2 = p := congrFun h 2
      have e3 : i 3 = o := congrFun h 3
      have e4 : i 4 = g := congrFun h 4
      subst e0; subst e2; subst e3; subst e4
      funext a; fin_cases a
      · rfl
      · exact e1.symm
      · rfl
      · rfl
      · rfl
      · rfl
    · rintro ⟨k, _, rfl⟩
      refine ⟨Finset.mem_univ _, ?_⟩; funext a; fin_cases a <;> rfl
  rw [hs, Finset.fold_map]
  refine Finset.fold_congr fun k _ => ?_
  rw [← v104_eq]
  simp only [Nat.mul_comm 4]
  rfl

/-- A plane's weight. -/
theorem shl_word : ∀ p : Fin 4, IntOp.shli ArithUnit.host 1#32 (val_main_v107 (F := Ideal) (ix1 p : S4.Idx)) = BitVec.ofInt 32 (2 ^ p.val) := by decide +kernel

/-- The table sum of a weight group. -/
theorem v114_eq (t : Fin 3) (o : Fin 24576) (g : Fin 192) :
    val_main_v114 (F := Ideal) x w (ix4 t (0 : Fin 1) o g) = BitVec.ofInt 32 (dotG (code (quads x t)) (fun p j => w (ix3 p o j)) g) := by
  unfold dotG
  rw [← fold_ofInt]
  pointwise [val_main_v114, val_main_v113, val_main_v112, val_main_v111, val_main_v110, val_main_v109, val_main_v108, val_main_c_17]
  simp only [v106_eq, shl_word, BitVec.ofInt_mul]
  rfl

/-- The sum of the full subsets of a weight group. -/
theorem v119_eq (t : Fin 3) (g : Fin 192) : val_main_v119 (F := Ideal) x (ix3 t (0 : Fin 1) g) = BitVec.ofInt 32 (sumG (code (quads x t)) g) := by
  unfold sumG
  rw [← fold_ofInt]
  pointwise [val_main_v119, val_main_v118, val_main_v117, val_main_v116, val_main_v115, val_main_c_19]
  simp only [v60_code, Nat.mul_comm 8]

/-- The looked-up sum of a weight group fits 32 bits. -/
theorem dotG_bound (t : Fin 3) (v : Fin 4 → Fin 768 → BitVec 8) (g : Fin 192) : -2147483648 ≤ dotG (code (quads x t)) v g ∧ dotG (code (quads x t)) v g < 2147483648 := by
  have hl : ∀ j b, -254 ≤ look (code (quads x t)) j b ∧ look (code (quads x t)) j b ≤ 254 := fun j b => by
    have h1 := code_bound (quads x t) ⟨2 * j.val, by omega⟩ (lo b)
    have h2 := code_bound (quads x t) ⟨2 * j.val + 1, by omega⟩ (hi b)
    unfold look; omega
  unfold dotG
  simp only [Fin.sum_univ_four]
  have a := fun p b => hl ⟨4 * g.val + (b : Fin 4).val, by omega⟩ (v p ⟨4 * g.val + b.val, by omega⟩)
  have a00 := a 0 0; have a01 := a 0 1; have a02 := a 0 2; have a03 := a 0 3
  have a10 := a 1 0; have a11 := a 1 1; have a12 := a 1 2; have a13 := a 1 3
  have a20 := a 2 0; have a21 := a 2 1; have a22 := a 2 2; have a23 := a 2 3
  have a30 := a 3 0; have a31 := a 3 1; have a32 := a 3 2; have a33 := a 3 3
  norm_num at *
  constructor <;> linarith

/-- The sum of a weight group's last entries fits 32 bits. -/
theorem sumG_bound (t : Fin 3) (g : Fin 192) : -2147483648 ≤ sumG (code (quads x t)) g ∧ sumG (code (quads x t)) g < 2147483648 := by
  unfold sumG
  have a := fun k => code_bound (quads x t) ⟨8 * g.val + (k : Fin 8).val, by omega⟩ 15
  have h0 : ∑ k : Fin 8, (-127 : ℤ) ≤ ∑ k : Fin 8, code (quads x t) ⟨8 * g.val + k.val, by omega⟩ 15 := Finset.sum_le_sum fun k _ => (a k).1
  have h1 : ∑ k : Fin 8, code (quads x t) ⟨8 * g.val + k.val, by omega⟩ 15 ≤ ∑ k : Fin 8, (127 : ℤ) := Finset.sum_le_sum fun k _ => (a k).2
  norm_num at h0 h1
  constructor <;> linarith

/-- The reference's first result. -/
theorem v137_eq (t : Fin 3) (o : Fin 24576) :
    val_main_v137 (F := Ideal) x w ws wz (ix3 t (0 : Fin 1) o)
      = outY (quads x t) (fun p j => w (ix3 p o j)) (fun g => ws (ix2 o g)) (fun g => wz (ix2 o g)) := by
  pointwise [val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120]
  simp only [v52_eq, v114_eq, v119_eq]
  have hz : val_main_cst_20 (F := Ideal) (Shape.Idx.first h_S_) = 0 := by
    show Ideal.ofBits FTy.f32 0x00000000#32 = 0
    simp [Ideal.ofBits, Ideal.ieee]
  rw [hz, zero_add]
  unfold outY
  refine Finset.sum_congr rfl fun g _ => ?_
  have hD := dotG_bound x t (fun p j => w (ix3 p o j)) g
  have hS := sumG_bound x t g
  have e1 : (FloatOps.sitofp (F := Ideal) FTy.f32 (BitVec.ofInt 32 (dotG (code (quads x t)) (fun p j => w (ix3 p o j)) g)) : EReal) = ((dotG (code (quads x t)) (fun p j => w (ix3 p o j)) g : ℝ) : EReal) := by
    show ((((BitVec.ofInt 32 _).toInt : ℝ)) : EReal) = _
    rw [toInt_small _ hD.1 hD.2]
  have e2 : (FloatOps.sitofp (F := Ideal) FTy.f32 (BitVec.ofInt 32 (sumG (code (quads x t)) g)) : EReal) = ((sumG (code (quads x t)) g : ℝ) : EReal) := by
    show ((((BitVec.ofInt 32 _).toInt : ℝ)) : EReal) = _
    rw [toInt_small _ hS.1 hS.2]
  rw [← e1, ← e2]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.BitsFrame
public import proofs.«01_k».proof.Proof.Gen.KernelIdeal
public import proofs.«01_k».proof.Proof.Gen.KernelIdeal.Frame
public import proofs.«01_k».proof.Proof.Gen.KernelIdeal.Skeleton
public import proofs.«01_k».proof.Proof.IdealFrame
public import proofs.«01_k».proof.Proof.KernelValue
public import proofs.«01_k».proof.Proof.RefY
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

open Cert.Spec

/-- The two programs' quads of a token and scale group are the same entries of the activations. -/
theorem quads_eq (x : Vec Ideal Cert.KernelIdeal.S3x1x6144 .bf16) (t : Fin 3) (s : Fin 48) :
    Cert.ReferenceIdeal.Hand.quads x t s = Cert.KernelIdeal.Hand.quadsA x t s := by
  funext q i
  refine congrArg (fun k => x (ix3 t (0 : Fin 1) k)) (Fin.ext ?_)
  show 128 * s.val + 4 * q.val + i.val = 128 * s.val + (4 * q.val + i.val)
  omega

/-- An index of a three-dimensional array whose middle size is one, by its coordinates. -/
theorem split3 {n : Nat} (y : (⟨3, ![3, 1, n]⟩ : Shape).Idx) : y = ix3 (y 0 : Fin 3) (0 : Fin 1) (y 2 : Fin n) := by
  funext a
  match a with
  | ⟨0, _⟩ => rfl
  | ⟨1, _⟩ => exact Fin.ext (by have h1 : (y 1).val < 1 := (y 1).isLt; show (y 1).val = 0; omega)
  | ⟨2, _⟩ => rfl

/-- An index of a four-dimensional array whose second size is one, by its coordinates. -/
theorem split4 {n k : Nat} (y : (⟨4, ![3, 1, n, k]⟩ : Shape).Idx) : y = ix4 (y 0 : Fin 3) (0 : Fin 1) (y 2 : Fin n) (y 3 : Fin k) := by
  funext a
  match a with
  | ⟨0, _⟩ => rfl
  | ⟨1, _⟩ => exact Fin.ext (by have h1 : (y 1).val < 1 := (y 1).isLt; show (y 1).val = 0; omega)
  | ⟨2, _⟩ => rfl
  | ⟨3, _⟩ => rfl

/-- The reference's first result in the problem's own words. -/
theorem ref_y (x : Vec Ideal Cert.KernelIdeal.S3x1x6144 .bf16) (w : Vec Ideal Cert.KernelIdeal.S4x24576x768 .i8) (ws wz : Vec Ideal Cert.KernelIdeal.S24576x192 .f32) :
    Cert.ReferenceIdeal.Read.val_main_v137 (F := Ideal) x w ws wz
      = fun y : Cert.KernelIdeal.S3x1x24576.Idx => outY (Cert.KernelIdeal.Hand.quadsA x (y 0)) (fun p j => w (ix3 p (y 2 : Fin 24576) j)) (fun g => ws (ix2 (y 2 : Fin 24576) g)) (fun g => wz (ix2 (y 2 : Fin 24576) g)) := by
  funext y
  have h := Cert.ReferenceIdeal.Hand.v137_eq x w ws wz (y 0) (y 2)
  rw [show Cert.ReferenceIdeal.Hand.quads x (y 0) = Cert.KernelIdeal.Hand.quadsA x (y 0) from funext fun s => quads_eq x (y 0) s] at h
  exact (congrArg (Cert.ReferenceIdeal.Read.val_main_v137 (F := Ideal) x w ws wz) (split3 y)).trans h

/-- The reference's codes in the problem's own words. -/
theorem ref_codes (x : Vec Ideal Cert.KernelIdeal.S3x1x6144 .bf16) : Cert.ReferenceIdeal.Read.val_main_v60 (F := Ideal) x
    = fun y : Cert.KernelIdeal.S3x1x1536x16.Idx => Cert.KernelIdeal.Hand.goalCodes x (y 0) (y 2) (y 3) := by
  funext y
  have h := Cert.ReferenceIdeal.Hand.v60_eq x (y 0) (y 2) (y 3)
  exact ((congrArg (Cert.ReferenceIdeal.Read.val_main_v60 (F := Ideal) x) (split4 y)).trans h).trans
    (congrArg (fun a => Ideal.fptosi 8 (gCode a _)) (quads_eq x (y 0) _))

/-- The reference's scales in the problem's own words. -/
theorem ref_scales (x : Vec Ideal Cert.KernelIdeal.S3x1x6144 .bf16) : Cert.ReferenceIdeal.Read.val_main_v52 (F := Ideal) x
    = fun y : Cert.KernelIdeal.S3x1x48.Idx => gScale (Cert.KernelIdeal.Hand.quadsA x (y 0) (y 2)) := by
  funext y
  have h := Cert.ReferenceIdeal.Hand.v52_eq x (y 0) (y 2)
  exact ((congrArg (Cert.ReferenceIdeal.Read.val_main_v52 (F := Ideal) x) (split3 y)).trans h).trans
    (congrArg gScale (quads_eq x (y 0) (y 2)))

/-- The kernel and the reference, from equal arguments, end with equal results and their arguments unchanged. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, Cert.KernelIdeal.Hand.run_value m g, (θ_run Cert.ReferenceIdeal.defs _ _).mono (fun r h c => ?_) (Cert.ReferenceIdeal.Value.run (F := Ideal) m' g')⟩
  obtain ⟨a0, a1, a2, a3⟩ := hargs c
  obtain ⟨h0, h1, h2, hrest⟩ := h c
  refine ⟨h0.trans ?_, h1.trans ?_, h2.trans ?_, hrest⟩
  · rw [Cert.ReferenceIdeal.Read.val_main_v137_eq, a0, a1, a2, a3]
    exact ref_y _ _ _ _
  · rw [Cert.ReferenceIdeal.Read.val_main_v60_eq, a0]
    exact ref_codes _
  · rw [Cert.ReferenceIdeal.Read.val_main_v52_eq, a0]
    exact ref_scales _

/-- The claims. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, frame_r, trivial, algebraic⟩

end Cert.Proof

end
